-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S1 : Shape := ⟨1, ![1]⟩
abbrev S4096x2048 : Shape := ⟨2, ![4096, 2048]⟩
abbrev S4x512x512 : Shape := ⟨3, ![4, 512, 512]⟩
abbrev S4x2x512x512 : Shape := ⟨4, ![4, 2, 512, 512]⟩
abbrev S4 : Shape := ⟨1, ![4]⟩
abbrev S4x2 : Shape := ⟨2, ![4, 2]⟩
abbrev S_ : Shape := ⟨0, ![]⟩
abbrev S512x512 : Shape := ⟨2, ![512, 512]⟩
abbrev S1x512x512 : Shape := ⟨3, ![1, 512, 512]⟩
abbrev S1x1 : Shape := ⟨2, ![1, 1]⟩
abbrev S1x1x512x512 : Shape := ⟨4, ![1, 1, 512, 512]⟩

abbrev nBuf : Space → Nat
  | .hbm => 5
  | .vmem => 8
  | .smem => 2
  | _ => 0

abbrev bufTy : (tb : Table) → Fin (tcTables nBuf tb) → BufTy
  | .hbm, ⟨0, _⟩ => ⟨S4096x512, .i8⟩
  | .hbm, ⟨1, _⟩ => ⟨S512x2048, .i8⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x512, .i8⟩
  | .local _ .vmem, ⟨1, _⟩ => ⟨S512x2048, .i8⟩
  | .local _ .vmem, ⟨2, _⟩ => ⟨S4096x2048, .f32⟩
  | .local _ .vmem, ⟨3, _⟩ => ⟨S4096x512, .bf16⟩
  | .local _ .vmem, ⟨4, _⟩ => ⟨S512x2048, .bf16⟩
  | .local _ .vmem, ⟨5, _⟩ => ⟨S4x512x512, .bf16⟩
  | .local _ .vmem, ⟨6, _⟩ => ⟨S4x2x512x512, .bf16⟩
  | .local _ .vmem, ⟨7, _⟩ => ⟨S4x512x512, .f32⟩
  | .local _ .smem, ⟨0, _⟩ => ⟨S1, .f32⟩
  | .local _ .smem, ⟨1, _⟩ => ⟨S1, .f32⟩
  | _, _ => ⟨S4096x512, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 6 → Bool
  | ⟨0, _⟩ => true
  | ⟨1, _⟩ => true
  | ⟨2, _⟩ => true
  | ⟨3, _⟩ => true
  | ⟨4, _⟩ => false
  | ⟨5, _⟩ => true
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 6 17 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 4

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_15 : BitVec 32 := 1#32
  let v24 : BitVec 32 := Scalar.muli v5 c1_i32_15
  let v25 : BitVec 32 := Scalar.addi c0_i32 v24
  v25.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_17 : BitVec 32 := 1#32
  let v26 : BitVec 32 := Scalar.muli v7 c1_i32_17
  let v27 : BitVec 32 := Scalar.addi c0_i32_18 v26
  v27.toNat
def k0_off1 (d0 : Dev nD) (c8_i32_19 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v28 : BitVec 32 := Scalar.addi v2 c8_i32_19
  let c8_i32_20 : BitVec 32 := 8#32
  let v29 : BitVec 32 := Scalar.remsi v28 c8_i32_20
  let c512_i32 : BitVec 32 := 512#32
  let v30 : BitVec 32 := Scalar.muli v29 c512_i32
  let v31 : Index := Scalar.indexCast v30
  let c0_21 : Index := 0#32
  ![v31.toNat, 0]
def k0_dev3 (d0 : Dev nD) : Nat :=
  let c0_i32_58 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_57 : BitVec 32 := 1#32
  let v72 : BitVec 32 := Scalar.muli v7 c1_i32_57
  let v73 : BitVec 32 := Scalar.addi c0_i32_58 v72
  v73.toNat
def k0_dev4 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_69 : BitVec 32 := 1#32
  let v82 : BitVec 32 := Scalar.muli v7 c1_i32_69
  let v83 : BitVec 32 := Scalar.addi c0_i32_70 v82
  v83.toNat
def k0_dev5 (d0 : Dev nD) : Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_81 : BitVec 32 := 1#32
  let v92 : BitVec 32 := Scalar.muli v5 c1_i32_81
  let v93 : BitVec 32 := Scalar.addi c0_i32_82 v92
  v93.toNat
def k0_dev6 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_92 : BitVec 32 := 1#32
  let v102 : BitVec 32 := Scalar.muli v5 c1_i32_92
  let v103 : BitVec 32 := Scalar.addi c0_i32_93 v102
  v103.toNat
def k0_dev7 (d0 : Dev nD) : Nat :=
  let c0_i32_173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_172 : BitVec 32 := 1#32
  let v178 : BitVec 32 := Scalar.muli v5 c1_i32_172
  let v179 : BitVec 32 := Scalar.addi c0_i32_173 v178
  v179.toNat
def k0_dev8 (d0 : Dev nD) : Nat :=
  let c0_i32_181 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_180 : BitVec 32 := 1#32
  let v180 : BitVec 32 := Scalar.muli v7 c1_i32_180
  let v181 : BitVec 32 := Scalar.addi c0_i32_181 v180
  v181.toNat
def k0_dev9 (d0 : Dev nD) : Nat :=
  let c0_i32_222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_221 : BitVec 32 := 1#32
  let v216 : BitVec 32 := Scalar.muli v5 c1_i32_221
  let v217 : BitVec 32 := Scalar.addi c0_i32_222 v216
  v217.toNat
def k0_dev10 (d0 : Dev nD) : Nat :=
  let c0_i32_230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_229 : BitVec 32 := 1#32
  let v218 : BitVec 32 := Scalar.muli v7 c1_i32_229
  let v219 : BitVec 32 := Scalar.addi c0_i32_230 v218
  v219.toNat
def k0_dev11 (d0 : Dev nD) : Nat :=
  let c0_i32_271 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_270 : BitVec 32 := 1#32
  let v254 : BitVec 32 := Scalar.muli v7 c1_i32_270
  let v255 : BitVec 32 := Scalar.addi c0_i32_271 v254
  v255.toNat
def k0_dev12 (d0 : Dev nD) : Nat :=
  let c0_i32_279 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_278 : BitVec 32 := 1#32
  let v256 : BitVec 32 := Scalar.muli v5 c1_i32_278
  let v257 : BitVec 32 := Scalar.addi c0_i32_279 v256
  v257.toNat
def k0_dev13 (d0 : Dev nD) : Nat :=
  let c0_i32_320 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_319 : BitVec 32 := 1#32
  let v292 : BitVec 32 := Scalar.muli v7 c1_i32_319
  let v293 : BitVec 32 := Scalar.addi c0_i32_320 v292
  v293.toNat
def k0_dev14 (d0 : Dev nD) : Nat :=
  let c0_i32_328 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_327 : BitVec 32 := 1#32
  let v294 : BitVec 32 := Scalar.muli v5 c1_i32_327
  let v295 : BitVec 32 := Scalar.addi c0_i32_328 v294
  v295.toNat
def k0_dev15 (d0 : Dev nD) : Nat :=
  let c0_i32_408 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_407 : BitVec 32 := 1#32
  let v370 : BitVec 32 := Scalar.muli v5 c1_i32_407
  let v371 : BitVec 32 := Scalar.addi c0_i32_408 v370
  v371.toNat
def k0_dev16 (d0 : Dev nD) : Nat :=
  let c0_i32_419 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_418 : BitVec 32 := 1#32
  let v374 : BitVec 32 := Scalar.muli v7 c1_i32_418
  let v375 : BitVec 32 := Scalar.addi c0_i32_419 v374
  v375.toNat
def k0_dev17 (d0 : Dev nD) : Nat :=
  let c0_i32_460 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_459 : BitVec 32 := 1#32
  let v410 : BitVec 32 := Scalar.muli v5 c1_i32_459
  let v411 : BitVec 32 := Scalar.addi c0_i32_460 v410
  v411.toNat
def k0_dev18 (d0 : Dev nD) : Nat :=
  let c0_i32_471 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_470 : BitVec 32 := 1#32
  let v414 : BitVec 32 := Scalar.muli v7 c1_i32_470
  let v415 : BitVec 32 := Scalar.addi c0_i32_471 v414
  v415.toNat
def k0_dev19 (d0 : Dev nD) : Nat :=
  let c0_i32_512 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_511 : BitVec 32 := 1#32
  let v450 : BitVec 32 := Scalar.muli v7 c1_i32_511
  let v451 : BitVec 32 := Scalar.addi c0_i32_512 v450
  v451.toNat
def k0_dev20 (d0 : Dev nD) : Nat :=
  let c0_i32_523 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_522 : BitVec 32 := 1#32
  let v454 : BitVec 32 := Scalar.muli v5 c1_i32_522
  let v455 : BitVec 32 := Scalar.addi c0_i32_523 v454
  v455.toNat
def k0_dev21 (d0 : Dev nD) : Nat :=
  let c0_i32_564 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_563 : BitVec 32 := 1#32
  let v490 : BitVec 32 := Scalar.muli v7 c1_i32_563
  let v491 : BitVec 32 := Scalar.addi c0_i32_564 v490
  v491.toNat
def k0_dev22 (d0 : Dev nD) : Nat :=
  let c0_i32_575 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_574 : BitVec 32 := 1#32
  let v494 : BitVec 32 := Scalar.muli v5 c1_i32_574
  let v495 : BitVec 32 := Scalar.addi c0_i32_575 v494
  v495.toNat
def k0_dev23 (d0 : Dev nD) : Nat :=
  let c0_i32_655 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_654 : BitVec 32 := 1#32
  let v570 : BitVec 32 := Scalar.muli v5 c1_i32_654
  let v571 : BitVec 32 := Scalar.addi c0_i32_655 v570
  v571.toNat
def k0_dev24 (d0 : Dev nD) : Nat :=
  let c0_i32_666 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_665 : BitVec 32 := 1#32
  let v574 : BitVec 32 := Scalar.muli v7 c1_i32_665
  let v575 : BitVec 32 := Scalar.addi c0_i32_666 v574
  v575.toNat
def k0_dev25 (d0 : Dev nD) : Nat :=
  let c0_i32_707 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_706 : BitVec 32 := 1#32
  let v610 : BitVec 32 := Scalar.muli v5 c1_i32_706
  let v611 : BitVec 32 := Scalar.addi c0_i32_707 v610
  v611.toNat
def k0_dev26 (d0 : Dev nD) : Nat :=
  let c0_i32_718 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_717 : BitVec 32 := 1#32
  let v614 : BitVec 32 := Scalar.muli v7 c1_i32_717
  let v615 : BitVec 32 := Scalar.addi c0_i32_718 v614
  v615.toNat
def k0_dev27 (d0 : Dev nD) : Nat :=
  let c0_i32_759 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_758 : BitVec 32 := 1#32
  let v650 : BitVec 32 := Scalar.muli v7 c1_i32_758
  let v651 : BitVec 32 := Scalar.addi c0_i32_759 v650
  v651.toNat
def k0_dev28 (d0 : Dev nD) : Nat :=
  let c0_i32_770 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_769 : BitVec 32 := 1#32
  let v654 : BitVec 32 := Scalar.muli v5 c1_i32_769
  let v655 : BitVec 32 := Scalar.addi c0_i32_770 v654
  v655.toNat
def k0_dev29 (d0 : Dev nD) : Nat :=
  let c0_i32_811 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_810 : BitVec 32 := 1#32
  let v690 : BitVec 32 := Scalar.muli v7 c1_i32_810
  let v691 : BitVec 32 := Scalar.addi c0_i32_811 v690
  v691.toNat
def k0_dev30 (d0 : Dev nD) : Nat :=
  let c0_i32_822 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_821 : BitVec 32 := 1#32
  let v694 : BitVec 32 := Scalar.muli v5 c1_i32_821
  let v695 : BitVec 32 := Scalar.addi c0_i32_822 v694
  v695.toNat
def k0_dev31 (d0 : Dev nD) : Nat :=
  let c0_i32_902 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_901 : BitVec 32 := 1#32
  let v770 : BitVec 32 := Scalar.muli v5 c1_i32_901
  let v771 : BitVec 32 := Scalar.addi c0_i32_902 v770
  v771.toNat
def k0_dev32 (d0 : Dev nD) : Nat :=
  let c0_i32_913 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_912 : BitVec 32 := 1#32
  let v774 : BitVec 32 := Scalar.muli v7 c1_i32_912
  let v775 : BitVec 32 := Scalar.addi c0_i32_913 v774
  v775.toNat
def k0_dev33 (d0 : Dev nD) : Nat :=
  let c0_i32_954 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_953 : BitVec 32 := 1#32
  let v810 : BitVec 32 := Scalar.muli v5 c1_i32_953
  let v811 : BitVec 32 := Scalar.addi c0_i32_954 v810
  v811.toNat
def k0_dev34 (d0 : Dev nD) : Nat :=
  let c0_i32_965 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_964 : BitVec 32 := 1#32
  let v814 : BitVec 32 := Scalar.muli v7 c1_i32_964
  let v815 : BitVec 32 := Scalar.addi c0_i32_965 v814
  v815.toNat
def k0_dev35 (d0 : Dev nD) : Nat :=
  let c0_i32_1006 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1005 : BitVec 32 := 1#32
  let v850 : BitVec 32 := Scalar.muli v7 c1_i32_1005
  let v851 : BitVec 32 := Scalar.addi c0_i32_1006 v850
  v851.toNat
def k0_dev36 (d0 : Dev nD) : Nat :=
  let c0_i32_1017 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1016 : BitVec 32 := 1#32
  let v854 : BitVec 32 := Scalar.muli v5 c1_i32_1016
  let v855 : BitVec 32 := Scalar.addi c0_i32_1017 v854
  v855.toNat
def k0_dev37 (d0 : Dev nD) : Nat :=
  let c0_i32_1058 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1057 : BitVec 32 := 1#32
  let v890 : BitVec 32 := Scalar.muli v7 c1_i32_1057
  let v891 : BitVec 32 := Scalar.addi c0_i32_1058 v890
  v891.toNat
def k0_dev38 (d0 : Dev nD) : Nat :=
  let c0_i32_1069 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1068 : BitVec 32 := 1#32
  let v894 : BitVec 32 := Scalar.muli v5 c1_i32_1068
  let v895 : BitVec 32 := Scalar.addi c0_i32_1069 v894
  v895.toNat
def k0_dev39 (d0 : Dev nD) : Nat :=
  let c0_i32_1150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1149 : BitVec 32 := 1#32
  let v970 : BitVec 32 := Scalar.muli v5 c1_i32_1149
  let v971 : BitVec 32 := Scalar.addi c0_i32_1150 v970
  v971.toNat
def k0_dev40 (d0 : Dev nD) : Nat :=
  let c0_i32_1161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1160 : BitVec 32 := 1#32
  let v974 : BitVec 32 := Scalar.muli v7 c1_i32_1160
  let v975 : BitVec 32 := Scalar.addi c0_i32_1161 v974
  v975.toNat
def k0_dev41 (d0 : Dev nD) : Nat :=
  let c0_i32_1202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1201 : BitVec 32 := 1#32
  let v1010 : BitVec 32 := Scalar.muli v5 c1_i32_1201
  let v1011 : BitVec 32 := Scalar.addi c0_i32_1202 v1010
  v1011.toNat
def k0_dev42 (d0 : Dev nD) : Nat :=
  let c0_i32_1213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1212 : BitVec 32 := 1#32
  let v1014 : BitVec 32 := Scalar.muli v7 c1_i32_1212
  let v1015 : BitVec 32 := Scalar.addi c0_i32_1213 v1014
  v1015.toNat
def k0_dev43 (d0 : Dev nD) : Nat :=
  let c0_i32_1254 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1253 : BitVec 32 := 1#32
  let v1050 : BitVec 32 := Scalar.muli v7 c1_i32_1253
  let v1051 : BitVec 32 := Scalar.addi c0_i32_1254 v1050
  v1051.toNat
def k0_dev44 (d0 : Dev nD) : Nat :=
  let c0_i32_1265 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1264 : BitVec 32 := 1#32
  let v1054 : BitVec 32 := Scalar.muli v5 c1_i32_1264
  let v1055 : BitVec 32 := Scalar.addi c0_i32_1265 v1054
  v1055.toNat
def k0_dev45 (d0 : Dev nD) : Nat :=
  let c0_i32_1306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1305 : BitVec 32 := 1#32
  let v1090 : BitVec 32 := Scalar.muli v7 c1_i32_1305
  let v1091 : BitVec 32 := Scalar.addi c0_i32_1306 v1090
  v1091.toNat
def k0_dev46 (d0 : Dev nD) : Nat :=
  let c0_i32_1317 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1316 : BitVec 32 := 1#32
  let v1094 : BitVec 32 := Scalar.muli v5 c1_i32_1316
  let v1095 : BitVec 32 := Scalar.addi c0_i32_1317 v1094
  v1095.toNat
def k0_dev47 (d0 : Dev nD) : Nat :=
  let c0_i32_1398 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1397 : BitVec 32 := 1#32
  let v1170 : BitVec 32 := Scalar.muli v5 c1_i32_1397
  let v1171 : BitVec 32 := Scalar.addi c0_i32_1398 v1170
  v1171.toNat
def k0_dev48 (d0 : Dev nD) : Nat :=
  let c0_i32_1409 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1408 : BitVec 32 := 1#32
  let v1174 : BitVec 32 := Scalar.muli v7 c1_i32_1408
  let v1175 : BitVec 32 := Scalar.addi c0_i32_1409 v1174
  v1175.toNat
def k0_dev49 (d0 : Dev nD) : Nat :=
  let c0_i32_1450 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1449 : BitVec 32 := 1#32
  let v1210 : BitVec 32 := Scalar.muli v5 c1_i32_1449
  let v1211 : BitVec 32 := Scalar.addi c0_i32_1450 v1210
  v1211.toNat
def k0_dev50 (d0 : Dev nD) : Nat :=
  let c0_i32_1461 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1460 : BitVec 32 := 1#32
  let v1214 : BitVec 32 := Scalar.muli v7 c1_i32_1460
  let v1215 : BitVec 32 := Scalar.addi c0_i32_1461 v1214
  v1215.toNat
def k0_dev51 (d0 : Dev nD) : Nat :=
  let c0_i32_1502 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1501 : BitVec 32 := 1#32
  let v1250 : BitVec 32 := Scalar.muli v7 c1_i32_1501
  let v1251 : BitVec 32 := Scalar.addi c0_i32_1502 v1250
  v1251.toNat
def k0_dev52 (d0 : Dev nD) : Nat :=
  let c0_i32_1513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1512 : BitVec 32 := 1#32
  let v1254 : BitVec 32 := Scalar.muli v5 c1_i32_1512
  let v1255 : BitVec 32 := Scalar.addi c0_i32_1513 v1254
  v1255.toNat
def k0_dev53 (d0 : Dev nD) : Nat :=
  let c0_i32_1554 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1553 : BitVec 32 := 1#32
  let v1290 : BitVec 32 := Scalar.muli v7 c1_i32_1553
  let v1291 : BitVec 32 := Scalar.addi c0_i32_1554 v1290
  v1291.toNat
def k0_dev54 (d0 : Dev nD) : Nat :=
  let c0_i32_1565 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1564 : BitVec 32 := 1#32
  let v1294 : BitVec 32 := Scalar.muli v5 c1_i32_1564
  let v1295 : BitVec 32 := Scalar.addi c0_i32_1565 v1294
  v1295.toNat
def k0_dev55 (d0 : Dev nD) : Nat :=
  let c0_i32_1643 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1642 : BitVec 32 := 1#32
  let v1366 : BitVec 32 := Scalar.muli v5 c1_i32_1642
  let v1367 : BitVec 32 := Scalar.addi c0_i32_1643 v1366
  v1367.toNat
def k0_dev56 (d0 : Dev nD) : Nat :=
  let c0_i32_1657 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1656 : BitVec 32 := 1#32
  let v1374 : BitVec 32 := Scalar.muli v7 c1_i32_1656
  let v1375 : BitVec 32 := Scalar.addi c0_i32_1657 v1374
  v1375.toNat
def k0_off2 (d0 : Dev nD) (c1_i32_1662 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1384 : BitVec 32 := Scalar.addi v2 c1_i32_1662
  let c8_i32_1663 : BitVec 32 := 8#32
  let v1385 : BitVec 32 := Scalar.remsi v1384 c8_i32_1663
  let c512_i32_1665 : BitVec 32 := 512#32
  let v1390 : BitVec 32 := Scalar.muli v1385 c512_i32_1665
  let v1391 : Index := Scalar.indexCast v1390
  let c0_1666 : Index := 0#32
  ![v1391.toNat, 0]
def k0_dev57 (d0 : Dev nD) : Nat :=
  let c0_i32_1700 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1699 : BitVec 32 := 1#32
  let v1415 : BitVec 32 := Scalar.muli v5 c1_i32_1699
  let v1416 : BitVec 32 := Scalar.addi c0_i32_1700 v1415
  v1416.toNat
def k0_dev58 (d0 : Dev nD) : Nat :=
  let c0_i32_1714 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1713 : BitVec 32 := 1#32
  let v1423 : BitVec 32 := Scalar.muli v7 c1_i32_1713
  let v1424 : BitVec 32 := Scalar.addi c0_i32_1714 v1423
  v1424.toNat
def k0_off3 (d0 : Dev nD) (c1_i32_1719 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1433 : BitVec 32 := Scalar.addi v2 c1_i32_1719
  let c8_i32_1720 : BitVec 32 := 8#32
  let v1434 : BitVec 32 := Scalar.remsi v1433 c8_i32_1720
  let c512_i32_1722 : BitVec 32 := 512#32
  let v1439 : BitVec 32 := Scalar.muli v1434 c512_i32_1722
  let v1440 : Index := Scalar.indexCast v1439
  let c512_1723 : Index := 512#32
  ![v1440.toNat, 512]
def k0_dev59 (d0 : Dev nD) : Nat :=
  let c0_i32_1757 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1756 : BitVec 32 := 1#32
  let v1464 : BitVec 32 := Scalar.muli v7 c1_i32_1756
  let v1465 : BitVec 32 := Scalar.addi c0_i32_1757 v1464
  v1465.toNat
def k0_dev60 (d0 : Dev nD) : Nat :=
  let c0_i32_1771 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1770 : BitVec 32 := 1#32
  let v1472 : BitVec 32 := Scalar.muli v5 c1_i32_1770
  let v1473 : BitVec 32 := Scalar.addi c0_i32_1771 v1472
  v1473.toNat
def k0_off4 (d0 : Dev nD) (c7_i32_1776 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1482 : BitVec 32 := Scalar.addi v2 c7_i32_1776
  let c8_i32_1777 : BitVec 32 := 8#32
  let v1483 : BitVec 32 := Scalar.remsi v1482 c8_i32_1777
  let c512_i32_1779 : BitVec 32 := 512#32
  let v1488 : BitVec 32 := Scalar.muli v1483 c512_i32_1779
  let v1489 : Index := Scalar.indexCast v1488
  let c1024_1780 : Index := 1024#32
  ![v1489.toNat, 1024]
def k0_dev61 (d0 : Dev nD) : Nat :=
  let c0_i32_1814 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1813 : BitVec 32 := 1#32
  let v1513 : BitVec 32 := Scalar.muli v7 c1_i32_1813
  let v1514 : BitVec 32 := Scalar.addi c0_i32_1814 v1513
  v1514.toNat
def k0_dev62 (d0 : Dev nD) : Nat :=
  let c0_i32_1828 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1827 : BitVec 32 := 1#32
  let v1521 : BitVec 32 := Scalar.muli v5 c1_i32_1827
  let v1522 : BitVec 32 := Scalar.addi c0_i32_1828 v1521
  v1522.toNat
def k0_off5 (d0 : Dev nD) (c7_i32_1833 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1531 : BitVec 32 := Scalar.addi v2 c7_i32_1833
  let c8_i32_1834 : BitVec 32 := 8#32
  let v1532 : BitVec 32 := Scalar.remsi v1531 c8_i32_1834
  let c512_i32_1836 : BitVec 32 := 512#32
  let v1537 : BitVec 32 := Scalar.muli v1532 c512_i32_1836
  let v1538 : Index := Scalar.indexCast v1537
  let c1536_1837 : Index := 1536#32
  ![v1538.toNat, 1536]
def k0_dev63 (d0 : Dev nD) : Nat :=
  let c0_i32_1871 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1870 : BitVec 32 := 1#32
  let v1561 : BitVec 32 := Scalar.muli v5 c1_i32_1870
  let v1562 : BitVec 32 := Scalar.addi c0_i32_1871 v1561
  v1562.toNat
def k0_dev64 (d0 : Dev nD) : Nat :=
  let c0_i32_1882 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1881 : BitVec 32 := 1#32
  let v1565 : BitVec 32 := Scalar.muli v7 c1_i32_1881
  let v1566 : BitVec 32 := Scalar.addi c0_i32_1882 v1565
  v1566.toNat
def k0_dev65 (d0 : Dev nD) : Nat :=
  let c0_i32_1928 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1927 : BitVec 32 := 1#32
  let v1608 : BitVec 32 := Scalar.muli v5 c1_i32_1927
  let v1609 : BitVec 32 := Scalar.addi c0_i32_1928 v1608
  v1609.toNat
def k0_dev66 (d0 : Dev nD) : Nat :=
  let c0_i32_1939 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1938 : BitVec 32 := 1#32
  let v1612 : BitVec 32 := Scalar.muli v7 c1_i32_1938
  let v1613 : BitVec 32 := Scalar.addi c0_i32_1939 v1612
  v1613.toNat
def k0_dev67 (d0 : Dev nD) : Nat :=
  let c0_i32_1985 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1984 : BitVec 32 := 1#32
  let v1655 : BitVec 32 := Scalar.muli v7 c1_i32_1984
  let v1656 : BitVec 32 := Scalar.addi c0_i32_1985 v1655
  v1656.toNat
def k0_dev68 (d0 : Dev nD) : Nat :=
  let c0_i32_1996 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1995 : BitVec 32 := 1#32
  let v1659 : BitVec 32 := Scalar.muli v5 c1_i32_1995
  let v1660 : BitVec 32 := Scalar.addi c0_i32_1996 v1659
  v1660.toNat
def k0_dev69 (d0 : Dev nD) : Nat :=
  let c0_i32_2042 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2041 : BitVec 32 := 1#32
  let v1702 : BitVec 32 := Scalar.muli v7 c1_i32_2041
  let v1703 : BitVec 32 := Scalar.addi c0_i32_2042 v1702
  v1703.toNat
def k0_dev70 (d0 : Dev nD) : Nat :=
  let c0_i32_2053 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2052 : BitVec 32 := 1#32
  let v1706 : BitVec 32 := Scalar.muli v5 c1_i32_2052
  let v1707 : BitVec 32 := Scalar.addi c0_i32_2053 v1706
  v1707.toNat
def k0_dev71 (d0 : Dev nD) : Nat :=
  let c0_i32_2099 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2098 : BitVec 32 := 1#32
  let v1749 : BitVec 32 := Scalar.muli v5 c1_i32_2098
  let v1750 : BitVec 32 := Scalar.addi c0_i32_2099 v1749
  v1750.toNat
def k0_dev72 (d0 : Dev nD) : Nat :=
  let c0_i32_2110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2109 : BitVec 32 := 1#32
  let v1753 : BitVec 32 := Scalar.muli v7 c1_i32_2109
  let v1754 : BitVec 32 := Scalar.addi c0_i32_2110 v1753
  v1754.toNat
def k0_dev73 (d0 : Dev nD) : Nat :=
  let c0_i32_2156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2155 : BitVec 32 := 1#32
  let v1796 : BitVec 32 := Scalar.muli v5 c1_i32_2155
  let v1797 : BitVec 32 := Scalar.addi c0_i32_2156 v1796
  v1797.toNat
def k0_dev74 (d0 : Dev nD) : Nat :=
  let c0_i32_2167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2166 : BitVec 32 := 1#32
  let v1800 : BitVec 32 := Scalar.muli v7 c1_i32_2166
  let v1801 : BitVec 32 := Scalar.addi c0_i32_2167 v1800
  v1801.toNat
def k0_dev75 (d0 : Dev nD) : Nat :=
  let c0_i32_2213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2212 : BitVec 32 := 1#32
  let v1843 : BitVec 32 := Scalar.muli v7 c1_i32_2212
  let v1844 : BitVec 32 := Scalar.addi c0_i32_2213 v1843
  v1844.toNat
def k0_dev76 (d0 : Dev nD) : Nat :=
  let c0_i32_2224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2223 : BitVec 32 := 1#32
  let v1847 : BitVec 32 := Scalar.muli v5 c1_i32_2223
  let v1848 : BitVec 32 := Scalar.addi c0_i32_2224 v1847
  v1848.toNat
def k0_dev77 (d0 : Dev nD) : Nat :=
  let c0_i32_2270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2269 : BitVec 32 := 1#32
  let v1890 : BitVec 32 := Scalar.muli v7 c1_i32_2269
  let v1891 : BitVec 32 := Scalar.addi c0_i32_2270 v1890
  v1891.toNat
def k0_dev78 (d0 : Dev nD) : Nat :=
  let c0_i32_2281 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2280 : BitVec 32 := 1#32
  let v1894 : BitVec 32 := Scalar.muli v5 c1_i32_2280
  let v1895 : BitVec 32 := Scalar.addi c0_i32_2281 v1894
  v1895.toNat
def k0_dev79 (d0 : Dev nD) : Nat :=
  let c0_i32_2327 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2326 : BitVec 32 := 1#32
  let v1937 : BitVec 32 := Scalar.muli v5 c1_i32_2326
  let v1938 : BitVec 32 := Scalar.addi c0_i32_2327 v1937
  v1938.toNat
def k0_dev80 (d0 : Dev nD) : Nat :=
  let c0_i32_2338 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2337 : BitVec 32 := 1#32
  let v1941 : BitVec 32 := Scalar.muli v7 c1_i32_2337
  let v1942 : BitVec 32 := Scalar.addi c0_i32_2338 v1941
  v1942.toNat
def k0_dev81 (d0 : Dev nD) : Nat :=
  let c0_i32_2384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2383 : BitVec 32 := 1#32
  let v1984 : BitVec 32 := Scalar.muli v5 c1_i32_2383
  let v1985 : BitVec 32 := Scalar.addi c0_i32_2384 v1984
  v1985.toNat
def k0_dev82 (d0 : Dev nD) : Nat :=
  let c0_i32_2395 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2394 : BitVec 32 := 1#32
  let v1988 : BitVec 32 := Scalar.muli v7 c1_i32_2394
  let v1989 : BitVec 32 := Scalar.addi c0_i32_2395 v1988
  v1989.toNat
def k0_dev83 (d0 : Dev nD) : Nat :=
  let c0_i32_2441 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2440 : BitVec 32 := 1#32
  let v2031 : BitVec 32 := Scalar.muli v7 c1_i32_2440
  let v2032 : BitVec 32 := Scalar.addi c0_i32_2441 v2031
  v2032.toNat
def k0_dev84 (d0 : Dev nD) : Nat :=
  let c0_i32_2452 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2451 : BitVec 32 := 1#32
  let v2035 : BitVec 32 := Scalar.muli v5 c1_i32_2451
  let v2036 : BitVec 32 := Scalar.addi c0_i32_2452 v2035
  v2036.toNat
def k0_dev85 (d0 : Dev nD) : Nat :=
  let c0_i32_2498 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2497 : BitVec 32 := 1#32
  let v2078 : BitVec 32 := Scalar.muli v7 c1_i32_2497
  let v2079 : BitVec 32 := Scalar.addi c0_i32_2498 v2078
  v2079.toNat
def k0_dev86 (d0 : Dev nD) : Nat :=
  let c0_i32_2509 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2508 : BitVec 32 := 1#32
  let v2082 : BitVec 32 := Scalar.muli v5 c1_i32_2508
  let v2083 : BitVec 32 := Scalar.addi c0_i32_2509 v2082
  v2083.toNat
def k0_dev87 (d0 : Dev nD) : Nat :=
  let c0_i32_2555 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2554 : BitVec 32 := 1#32
  let v2125 : BitVec 32 := Scalar.muli v5 c1_i32_2554
  let v2126 : BitVec 32 := Scalar.addi c0_i32_2555 v2125
  v2126.toNat
def k0_dev88 (d0 : Dev nD) : Nat :=
  let c0_i32_2566 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2565 : BitVec 32 := 1#32
  let v2129 : BitVec 32 := Scalar.muli v7 c1_i32_2565
  let v2130 : BitVec 32 := Scalar.addi c0_i32_2566 v2129
  v2130.toNat
def k0_dev89 (d0 : Dev nD) : Nat :=
  let c0_i32_2612 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2611 : BitVec 32 := 1#32
  let v2172 : BitVec 32 := Scalar.muli v5 c1_i32_2611
  let v2173 : BitVec 32 := Scalar.addi c0_i32_2612 v2172
  v2173.toNat
def k0_dev90 (d0 : Dev nD) : Nat :=
  let c0_i32_2623 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2622 : BitVec 32 := 1#32
  let v2176 : BitVec 32 := Scalar.muli v7 c1_i32_2622
  let v2177 : BitVec 32 := Scalar.addi c0_i32_2623 v2176
  v2177.toNat
def k0_dev91 (d0 : Dev nD) : Nat :=
  let c0_i32_2669 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2668 : BitVec 32 := 1#32
  let v2219 : BitVec 32 := Scalar.muli v7 c1_i32_2668
  let v2220 : BitVec 32 := Scalar.addi c0_i32_2669 v2219
  v2220.toNat
def k0_dev92 (d0 : Dev nD) : Nat :=
  let c0_i32_2680 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2679 : BitVec 32 := 1#32
  let v2223 : BitVec 32 := Scalar.muli v5 c1_i32_2679
  let v2224 : BitVec 32 := Scalar.addi c0_i32_2680 v2223
  v2224.toNat
def k0_dev93 (d0 : Dev nD) : Nat :=
  let c0_i32_2726 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2725 : BitVec 32 := 1#32
  let v2266 : BitVec 32 := Scalar.muli v7 c1_i32_2725
  let v2267 : BitVec 32 := Scalar.addi c0_i32_2726 v2266
  v2267.toNat
def k0_dev94 (d0 : Dev nD) : Nat :=
  let c0_i32_2737 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2736 : BitVec 32 := 1#32
  let v2270 : BitVec 32 := Scalar.muli v5 c1_i32_2736
  let v2271 : BitVec 32 := Scalar.addi c0_i32_2737 v2270
  v2271.toNat
def k0_dev95 (d0 : Dev nD) : Nat :=
  let c0_i32_2783 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2782 : BitVec 32 := 1#32
  let v2313 : BitVec 32 := Scalar.muli v5 c1_i32_2782
  let v2314 : BitVec 32 := Scalar.addi c0_i32_2783 v2313
  v2314.toNat
def k0_dev96 (d0 : Dev nD) : Nat :=
  let c0_i32_2794 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2793 : BitVec 32 := 1#32
  let v2317 : BitVec 32 := Scalar.muli v7 c1_i32_2793
  let v2318 : BitVec 32 := Scalar.addi c0_i32_2794 v2317
  v2318.toNat
def k0_dev97 (d0 : Dev nD) : Nat :=
  let c0_i32_2840 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2839 : BitVec 32 := 1#32
  let v2360 : BitVec 32 := Scalar.muli v5 c1_i32_2839
  let v2361 : BitVec 32 := Scalar.addi c0_i32_2840 v2360
  v2361.toNat
def k0_dev98 (d0 : Dev nD) : Nat :=
  let c0_i32_2851 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2850 : BitVec 32 := 1#32
  let v2364 : BitVec 32 := Scalar.muli v7 c1_i32_2850
  let v2365 : BitVec 32 := Scalar.addi c0_i32_2851 v2364
  v2365.toNat
def k0_dev99 (d0 : Dev nD) : Nat :=
  let c0_i32_2897 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2896 : BitVec 32 := 1#32
  let v2407 : BitVec 32 := Scalar.muli v7 c1_i32_2896
  let v2408 : BitVec 32 := Scalar.addi c0_i32_2897 v2407
  v2408.toNat
def k0_dev100 (d0 : Dev nD) : Nat :=
  let c0_i32_2908 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2907 : BitVec 32 := 1#32
  let v2411 : BitVec 32 := Scalar.muli v5 c1_i32_2907
  let v2412 : BitVec 32 := Scalar.addi c0_i32_2908 v2411
  v2412.toNat
def k0_dev101 (d0 : Dev nD) : Nat :=
  let c0_i32_2954 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2953 : BitVec 32 := 1#32
  let v2454 : BitVec 32 := Scalar.muli v7 c1_i32_2953
  let v2455 : BitVec 32 := Scalar.addi c0_i32_2954 v2454
  v2455.toNat
def k0_dev102 (d0 : Dev nD) : Nat :=
  let c0_i32_2965 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2964 : BitVec 32 := 1#32
  let v2458 : BitVec 32 := Scalar.muli v5 c1_i32_2964
  let v2459 : BitVec 32 := Scalar.addi c0_i32_2965 v2458
  v2459.toNat
def k0_dev103 (d0 : Dev nD) : Nat :=
  let c0_i32_3018 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3017 : BitVec 32 := 1#32
  let v2501 : BitVec 32 := Scalar.muli v7 c1_i32_3017
  let v2502 : BitVec 32 := Scalar.addi c0_i32_3018 v2501
  v2502.toNat
def k0_dev104 (d0 : Dev nD) : Nat :=
  let c0_i32_3071 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3070 : BitVec 32 := 1#32
  let v2544 : BitVec 32 := Scalar.muli v7 c1_i32_3070
  let v2545 : BitVec 32 := Scalar.addi c0_i32_3071 v2544
  v2545.toNat
def k0_dev105 (d0 : Dev nD) : Nat :=
  let c0_i32_3124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3123 : BitVec 32 := 1#32
  let v2587 : BitVec 32 := Scalar.muli v5 c1_i32_3123
  let v2588 : BitVec 32 := Scalar.addi c0_i32_3124 v2587
  v2588.toNat
def k0_dev106 (d0 : Dev nD) : Nat :=
  let c0_i32_3177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3176 : BitVec 32 := 1#32
  let v2630 : BitVec 32 := Scalar.muli v5 c1_i32_3176
  let v2631 : BitVec 32 := Scalar.addi c0_i32_3177 v2630
  v2631.toNat
def k0_dev107 (d0 : Dev nD) : Nat :=
  let c0_i32_3320_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3319_r0 : BitVec 32 := 1#32
  let v2757_r0 : BitVec 32 := Scalar.muli v5 c1_i32_3319_r0
  let v2758_r0 : BitVec 32 := Scalar.addi c0_i32_3320_r0 v2757_r0
  v2758_r0.toNat
def k0_dev108 (d0 : Dev nD) : Nat :=
  let c0_i32_3323_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3322_r0 : BitVec 32 := 1#32
  let v2759_r0 : BitVec 32 := Scalar.muli v7 c1_i32_3322_r0
  let v2760_r0 : BitVec 32 := Scalar.addi c0_i32_3323_r0 v2759_r0
  v2760_r0.toNat
abbrev stage0_0 : Fin 1 → Memref sig .tc .vmem S4096x512 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.Program.lean ====
/- The kernel's body as a program of rings and steps.

   Each of the eight devices runs four rings. Rings 0 and 1 send to the right and receive from the left,
   rings 2 and 3 the other way round. A ring is 14 transfers `k = 0 … 13` of a 512×512 block; transfer `k` lands in
   slot `k % 2` of the receiving device's two slots for that ring. This module names one step of one ring as a
   function of the ring `r` and the transfer `k`, and states that the printed body is those steps in order. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.Tactic

@[expose] public section

noncomputable section

namespace Cert.Ring

open Cert.KernelIdeal Cert.KernelIdeal.Gen

open Idealize.ShloMosaic
open Idealize.ShloMosaic.TcCoe
open Idealize.SL Idealize.SL.RA Idealize.SL.BI
open Idealize.SL.Sem

variable {F : FTy → Type} [FloatOps F]

/-! ## Devices and blocks -/

/-- The device before `d` on the ring. -/
def lft (d : Dev nD) : Dev nD := ⟨k0_dev1 d, k0_dev1_lt d⟩
/-- The device after `d` on the ring. -/
def rgt (d : Dev nD) : Dev nD := ⟨k0_dev2 d, k0_dev2_lt d⟩

/-- The device ring `r` of device `d` sends to. -/
def dn : Fin 4 → Dev nD → Dev nD
  | 0, d | 1, d => rgt d
  | 2, d | 3, d => lft d
/-- The device ring `r` of device `d` receives from. -/
def up : Fin 4 → Dev nD → Dev nD
  | 0, d | 1, d => lft d
  | 2, d | 3, d => rgt d

/-- The slot transfer `k` lands in. -/
def slot (k : ℕ) : Fin 2 := ⟨k % 2, Nat.mod_lt _ (by decide)⟩

/-- Which row block of the operand, counted from the device's own, enters transfer `k` of ring `r`. -/
def xix : Fin 4 → ℕ → Fin 9
  | 0, k | 1, k => Fin.ofNat 9 (8 - k)
  | 2, k | 3, k => Fin.ofNat 9 k
/-- The same for the block a device keeps after the reduction. -/
def xfin : Fin 4 → Fin 9
  | 0 | 1 => 1
  | 2 | 3 => 7

/-- Which row block of the result, counted from the device's own, the `n`-th block stored by ring `r` is. -/
def oix : Fin 4 → ℕ → ℕ
  | 0, n | 1, n => if n = 0 then 1 else 9 - n
  | 2, n | 3, n => if n = 0 then 7 else n - 1
/-- Where that block starts in the result. -/
def outOff : Fin 4 → Dev nD → BitVec 32 → Fin 2 → ℕ
  | 0 => k0_off2
  | 1 => k0_off3
  | 2 => k0_off4
  | 3 => k0_off5

/-- Every block of the result lies within it, -/
theorem outOff_inb (r : Fin 4) (d : Dev nD) (n : Fin 8) :
    ∀ a, outOff r d (BitVec.ofNat 32 (oix r n)) a + S512x512.size a ≤ S4096x2048.size a := by
  revert r d n; decide +kernel

/-- every ring's block within the send buffer, -/
theorem inb_send (r : Fin 4) : ∀ a, (![r.val, 0, 0] : Fin 3 → ℕ) a + S1x512x512.size a ≤ S4x512x512.size a := by
  revert r; decide
/-- every slot within the receive buffer, -/
theorem inb_recv (r : Fin 4) (p : Fin 2) :
    ∀ a, (![r.val, p.val, 0, 0] : Fin 4 → ℕ) a + S1x1x512x512.size a ≤ S4x2x512x512.size a := by
  revert r p; decide
/-- every strip within the right factor, -/
theorem inb_wb (r : Fin 4) : ∀ a, (![0, 512 * r.val] : Fin 2 → ℕ) a + S512x512.size a ≤ S512x2048.size a := by
  revert r; decide
/-- and every ring's semaphore -/
theorem inb_sem (r : Fin 4) : ∀ a, (![r.val] : Fin 1 → ℕ) a + S1.size a ≤ S4.size a := by
  revert r; decide
/-- or pair of semaphores within its array. -/
theorem inb_sem2 (r : Fin 4) (p : Fin 2) : ∀ a, (![r.val, p.val] : Fin 2 → ℕ) a + S1x1.size a ≤ S4x2.size a := by
  revert r p; decide

/-! ## Buffers, rectangles and semaphores -/

abbrev bX : Memref sig .tc .vmem S4096x512 .i8 := Memref.whole cc0_stg0_0
abbrev bW : Memref sig .tc .vmem S512x2048 .i8 := Memref.whole cc0_stg1_0
abbrev bSX : Memref sig .tc .smem S1 .f32 := Memref.whole cc0_stg2_0
abbrev bSW : Memref sig .tc .smem S1 .f32 := Memref.whole cc0_stg3_0
abbrev bOut : Memref sig .tc .vmem S4096x2048 .f32 := Memref.whole cc0_stg4_0
abbrev bXb : Memref sig .tc .vmem S4096x512 .bf16 := Memref.whole cc0_scratch0
abbrev bWb : Memref sig .tc .vmem S512x2048 .bf16 := Memref.whole cc0_scratch1
abbrev bSend : Memref sig .tc .vmem S4x512x512 .bf16 := Memref.whole cc0_scratch2
abbrev bRecv : Memref sig .tc .vmem S4x2x512x512 .bf16 := Memref.whole cc0_scratch3
abbrev bPc : Memref sig .tc .vmem S4x512x512 .f32 := Memref.whole cc0_scratch4

abbrev rX : Rect S4096x512 := Rect.unit ![0, 0] S4096x512.size inb_S4096x512_S4096x512_0_0
abbrev rW : Rect S512x2048 := Rect.unit ![0, 0] S512x2048.size inb_S512x2048_S512x2048_0_0
abbrev rXb (d : Dev nD) (i : Fin 9) : Rect S4096x512 :=
  Rect.unit (k0_off1 d (BitVec.ofNat 32 i.val)) S512x512.size (k0_off1_inb d i)
abbrev rWb (r : Fin 4) : Rect S512x2048 := Rect.unit ![0, 512 * r.val] S512x512.size (inb_wb r)
abbrev rSend (r : Fin 4) : Rect S4x512x512 := Rect.unit ![r.val, 0, 0] S1x512x512.size (inb_send r)
abbrev rRecv (r : Fin 4) (p : Fin 2) : Rect S4x2x512x512 :=
  Rect.unit ![r.val, p.val, 0, 0] S1x1x512x512.size (inb_recv r p)
abbrev rOut (r : Fin 4) (d : Dev nD) (n : Fin 8) : Rect S4096x2048 :=
  Rect.unit (outOff r d (BitVec.ofNat 32 (oix r n))) S512x512.size (outOff_inb r d n)

/-- A ring's block of the send buffer has whole packed rows -/
theorem packed_send (r : Fin 4) : (rSend r).PackedRows (EltTy.packing .bf16) := by
  revert r; decide
/-- and is made of whole words, -/
theorem words_send (r : Fin 4) : (rSend r).WholeWords (EltTy.packing .bf16) := by
  revert r; decide
/-- as is a slot. -/
theorem words_recv (r : Fin 4) (p : Fin 2) : (rRecv r p).WholeWords (EltTy.packing .bf16) := by
  revert r p; decide

/-- Ring `r`'s block of the send buffer. -/
abbrev sSend (r : Fin 4) : Memref sig .tc .vmem S512x512 .bf16 :=
  (bSend.slice (rSend r) (fun _ => rfl)).squeeze S512x512 squeezes_S1x512x512_S512x512
/-- Slot `p` of ring `r`. -/
abbrev sRecv (r : Fin 4) (p : Fin 2) : Memref sig .tc .vmem S512x512 .bf16 :=
  (bRecv.slice (rRecv r p) (fun _ => rfl)).squeeze S512x512 squeezes_S1x1x512x512_S512x512

/-- So a block can be the source of a copy -/
theorem we_send (r : Fin 4) : (sSend r).view.WordExact :=
  ((Memref.isWhole_whole cc0_scratch2).wordExact_slice rfl _ (words_send r)).reshape _ _
/-- and a slot its target. -/
theorem we_recv (r : Fin 4) (p : Fin 2) : (sRecv r p).view.WordExact :=
  ((Memref.isWhole_whole cc0_scratch3).wordExact_slice rfl _ (words_recv r p)).reshape _ _

abbrev semSend (r : Fin 4) : DmaSem sig :=
  ((cc0_scratch5.slice (Rect.unit (s := S4) ![r.val] S1.size (inb_sem r))).squeeze S_ squeezes_S1_S_).sem
abbrev semRecv (r : Fin 4) (p : Fin 2) : DmaSem sig :=
  ((cc0_scratch6.slice (Rect.unit (s := S4x2) ![r.val, p.val] S1x1.size (inb_sem2 r p))).squeeze S_ squeezes_S1x1_S_).sem
abbrev semCred (r : Fin 4) : Sem sig :=
  ((cc0_scratch7.slice (Rect.unit (s := S4) ![r.val] S1.size (inb_sem r))).squeeze S_ squeezes_S1_S_).sem
abbrev semBar : Sem sig := (SemArray.scalar (sig.barrier 0 rfl) : Sems sig S_).sem
abbrev semExit : Sem sig := cc0_scoped0.sem

/-! ## The steps -/

/-- A program of one device's core. -/
abbrev Pr (F : FTy → Type) (α : Type) : Type 1 := Prog (TpuEff nD τ sig (Elt F) Λ₀ .tc) α

def ldXb (d : Dev nD) (i : Fin 9) : Pr F (Vec F S512x512 .bf16) :=
  Prog.lift (.load bXb (rXb d i).toLoadRect (View.loadsAt_vmem h_S512x512))
def ldWb (r : Fin 4) : Pr F (Vec F S512x512 .bf16) :=
  Prog.lift (.load bWb (rWb r).toLoadRect (View.loadsAt_vmem h_S512x512))
def ldSend (r : Fin 4) : Pr F (Vec F S1x512x512 .bf16) :=
  Prog.lift (.load bSend (rSend r).toLoadRect (View.loadsAt_vmem h_S1x512x512))
def ldRecv (r : Fin 4) (p : Fin 2) : Pr F (Vec F S1x1x512x512 .bf16) :=
  Prog.lift (.load bRecv (rRecv r p).toLoadRect (View.loadsAt_vmem h_S1x1x512x512))
def ldPc (r : Fin 4) : Pr F (Vec F S1x512x512 .f32) :=
  Prog.lift (.load bPc (rSend r).toLoadRect (View.loadsAt_vmem h_S1x512x512))
def ldOut (r : Fin 4) (d : Dev nD) (n : Fin 8) : Pr F (Vec F S512x512 .f32) :=
  Prog.lift (.load bOut (rOut r d n).toLoadRect (View.loadsAt_vmem h_S512x512))
def stSend (r : Fin 4) (v : Vec F S1x512x512 .bf16) : Pr F PUnit :=
  Prog.lift (.store bSend (rSend r) v Finset.univ
    (View.stores_vmem h_S1x512x512 ((Memref.isWhole_whole cc0_scratch2).storeExact_slice rfl _ (packed_send r)) (fun _ => rfl)) (.inl rfl))
def stPc (r : Fin 4) (v : Vec F S1x512x512 .f32) : Pr F PUnit :=
  Prog.lift (.store bPc (rSend r) v Finset.univ (View.stores_vmem_bits_univ h_S1x512x512 rfl) (.inl rfl))
def stOut (r : Fin 4) (d : Dev nD) (n : Fin 8) (v : Vec F S512x512 .f32) : Pr F PUnit :=
  Prog.lift (.store bOut (rOut r d n) v Finset.univ (View.stores_vmem_bits_univ h_S512x512 rfl) (.inl rfl))

/-- The device's own contribution to the first transfer: its product block, rounded. -/
def first (d : Dev nD) (r : Fin 4) : Pr F PUnit := do
  let a ← ldXb d (xix r 0); let b ← ldWb r; let _ ← ldSend r; stSend r (k0_pay4 a b)
/-- The device's own contribution to a later transfer, kept at full width. -/
def prod (d : Dev nD) (r : Fin 4) (i : Fin 9) : Pr F PUnit := do
  let a ← ldXb d i; let b ← ldWb r; let _ ← ldPc r; stPc r (k0_pay9 a b)

/-- Start transfer `k` of ring `r`. -/
def send (d : Dev nD) (r : Fin 4) (k : ℕ) : Pr F PUnit :=
  Prog.lift (.enqueueDma (sSend r) (.remote (Dev.tc (dn r d)) (sRecv r (slot k)) (.dma (semSend r))) (.dma (semRecv r (slot k)))
    (we_send r) (we_recv r (slot k)) ⟨⟨rfl, Or.inl rfl⟩, trivial⟩)
/-- Wait for transfer `k` into this device and for transfer `k` out of it. -/
def waitBoth (r : Fin 4) (k : ℕ) : Pr F PUnit := do
  Prog.lift (.waitDma2 (semRecv r (slot k)) (sSend r) (sRecv r (slot k)) (we_send r) (we_recv r (slot k)))
  Prog.lift (.waitDma2 (semSend r) (sRecv r 0) (sSend r) (we_recv r 0) (we_send r))
/-- Tell the sender that a slot has been read. -/
def credit (d : Dev nD) (r : Fin 4) : Pr F PUnit := semSignalWord (up r d) (semCred r) 1#32
/-- Wait for the receiver to have read a slot. -/
def await (r : Fin 4) : Pr F PUnit := semWaitWord (semCred r) 1#32

/-- Reduction step `k` (1 ≤ k ≤ 6). -/
def reduceStep (d : Dev nD) (r : Fin 4) (k : ℕ) : Pr F PUnit := do
  waitBoth r (k - 1)
  let a ← ldRecv r (slot (k - 1)); let b ← ldPc r; let _ ← ldSend r; stSend r (k0_pay14 a b)
  credit d r
  if 2 ≤ k then await r else pure ⟨⟩
  send d r k
/-- The last reduction step: the block complete on this device, sent on and stored. -/
def finStep (d : Dev nD) (s : F .f32) (r : Fin 4) : Pr F PUnit := do
  waitBoth r 6
  let a ← ldRecv r (slot 6); let b ← ldPc r
  credit d r
  let _ ← ldSend r; stSend r (k0_pay67 a b)
  await r
  send d r 7
  let _ ← ldOut r d 0; stOut r d 0 (k0_pay68 s (k0_pay66 a b))
/-- Distribution step `n` (1 ≤ n ≤ 6): pass on the block received and store it. -/
def spreadStep (d : Dev nD) (s : F .f32) (r : Fin 4) (n : Fin 8) : Pr F PUnit := do
  waitBoth r (n.val + 6)
  let a ← ldRecv r (slot (n.val + 6)); let _ ← ldSend r; stSend r (k0_pay81 a)
  if n.val ≤ 5 then credit d r else pure ⟨⟩
  await r
  send d r (n.val + 7)
  let b ← ldSend r; let _ ← ldOut r d n; stOut r d n (k0_pay82 s b)
/-- The last distribution step: the last block received, stored. -/
def tailStep (d : Dev nD) (s : F .f32) (r : Fin 4) : Pr F PUnit := do
  waitBoth r 13
  let a ← ldRecv r (slot 13); let _ ← ldOut r d 7; stOut r d 7 (k0_pay138 s a)

/-- One step of each ring, in order. -/
def rings (f : Fin 4 → Pr F PUnit) : Pr F PUnit := do f 0; f 1; f 2; f 3

/-- The entry: the product of the two scales, the operands widened, the barrier with both neighbours. -/
def entry (d : Dev nD) : Pr F (F .f32) := do
  let a : Elt F .f32 ← smemLoad bSX (Rect.unit (s := S1) ![0] S1.size inb_S1_S1_0) numel1_S1 rfl
  let b : Elt F .f32 ← smemLoad bSW (Rect.unit (s := S1) ![0] S1.size inb_S1_S1_0) numel1_S1 rfl
  let x : Vec F S4096x512 .i8 ← Prog.lift (.load bX rX.toLoadRect (View.loadsAt_vmem h_S4096x512))
  let _ : Vec F S4096x512 .bf16 ← Prog.lift (.load bXb rX.toLoadRect (View.loadsAt_vmem h_S4096x512))
  Prog.lift (.store bXb rX (k0_pay2 x) Finset.univ (View.stores_vmem h_S4096x512
    ((Memref.isWhole_whole cc0_scratch0).storeExact_slice rfl _ packedbf16_S4096x512_S4096x512_0_0) (fun _ => rfl)) (.inl rfl))
  let w : Vec F S512x2048 .i8 ← Prog.lift (.load bW rW.toLoadRect (View.loadsAt_vmem h_S512x2048))
  let _ : Vec F S512x2048 .bf16 ← Prog.lift (.load bWb rW.toLoadRect (View.loadsAt_vmem h_S512x2048))
  Prog.lift (.store bWb rW (k0_pay3 w) Finset.univ (View.stores_vmem h_S512x2048
    ((Memref.isWhole_whole cc0_scratch1).storeExact_slice rfl _ packedbf16_S512x2048_S512x2048_0_0) (fun _ => rfl)) (.inl rfl))
  semSignalWord (lft d) semBar 1#32
  semSignalWord (rgt d) semBar 1#32
  semWaitWord semBar 2#32
  pure (Scalar.mulf a b)

/-- The reduction half. -/
def reduce (d : Dev nD) : Pr F PUnit := do
  rings fun r => prod d r (xix r 1)
  rings fun r => reduceStep d r 1
  rings fun r => prod d r (xix r 2)
  rings fun r => reduceStep d r 2
  rings fun r => prod d r (xix r 3)
  rings fun r => reduceStep d r 3
  rings fun r => prod d r (xix r 4)
  rings fun r => reduceStep d r 4
  rings fun r => prod d r (xix r 5)
  rings fun r => reduceStep d r 5
  rings fun r => prod d r (xix r 6)
  rings fun r => reduceStep d r 6
/-- The distribution half. -/
def spread (d : Dev nD) (s : F .f32) : Pr F PUnit := do
  rings fun r => prod d r (xfin r)
  rings fun r => finStep d s r
  rings fun r => spreadStep d s r 1
  rings fun r => spreadStep d s r 2
  rings fun r => spreadStep d s r 3
  rings fun r => spreadStep d s r 4
  rings fun r => spreadStep d s r 5
  rings fun r => spreadStep d s r 6
  rings fun r => tailStep d s r
/-- The exit handshake with both neighbours. -/
def leave (d : Dev nD) : Pr F PUnit := do
  semSignalWord (lft d) semExit 1#32
  semSignalWord (rgt d) semExit 1#32
  semWaitWord semExit 2#32

/-- The whole body. -/
def main : Pr F PUnit := do
  let d ← Prog.lift .deviceId
  let s ← entry d
  rings fun r => first d r
  rings fun r => send d r 0
  reduce d
  spread d s
  leave d

/-- The printed body is the steps above in order. -/
theorem body_eq : cc0_body (F := F) bX (Memref.isWhole_whole _) bW (Memref.isWhole_whole _) bSX (Memref.isWhole_whole _)
    bSW (Memref.isWhole_whole _) bOut (Memref.isWhole_whole _) bXb (Memref.isWhole_whole _) bWb (Memref.isWhole_whole _)
    bSend (Memref.isWhole_whole _) bRecv (Memref.isWhole_whole _) bPc (Memref.isWhole_whole _)
    cc0_scratch5 cc0_scratch6 cc0_scratch7 cc0_scoped0 = main := by
  chain_rfl

end Cert.Ring
-- ==== Proof.Setup.lean ====
/- The protocol of the rings: what every transfer carries, what every semaphore hands over, and in which order.

   * The barrier semaphore of a device is signalled once by each neighbour. The signal says that the neighbour's two
     slots of each ring the device sends into are free.
   * Transfer `k` of ring `r` raises the receive semaphore of slot `k % 2` on the receiver and the send semaphore
     of the ring on the sender, each by the block's size. The first hands the receiver the slot holding the block,
     the second hands the sender its block back.
   * After reading the slot of transfer `n` (`n ≤ 11`) the receiver raises the sender's credit semaphore by one.
     The credit says that the slot is free for transfer `n + 2`. The credits are twelve units of one
     round: a sender that has taken `n + 1` of them holds one of number at least `n`.
   * The exit semaphore of a device is signalled once by each neighbour and hands over nothing.

   Waiting is ordered by level: barrier 1, landing `k` at `2 + 2k`, credit `n` at `3 + 2n`, exit 100; a device only ever
   waits at a level below everything it still owes. -/
module

public import proofs.«01_k».proof.Proof.Program
public import Idealize.ShloMosaic.Lib.ViewIndex

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slot_take slot_release slots_init released released_mono readerAt writeTok slotInv)

variable {F : FTy → Type} [FloatOps F]

/-! ## The resource algebra -/

/-- A slot: the reading device, the ring, and which of the two. -/
abbrev Key : Type := Dev nD × Fin 4 × Fin 2
abbrev UB : Type := URounds (GSem nD τ sig) ℕ
abbrev US : Type := USlots Key
abbrev UU : Type := UR sig nD τ × (UB × US)

local notation "𝕄" => MT nD τ sig ℕ (Elt F) ℕ UU ℕ

abbrev EP : Emb (UR sig nD τ) (MT nD τ sig ℕ (Elt F) ℕ UU ℕ) := embL
abbrev EBS : Emb (UB × US) (MT nD τ sig ℕ (Elt F) ℕ UU ℕ) := embR
def ER : Emb UB (MT nD τ sig ℕ (Elt F) ℕ UU ℕ) := (Emb.inl : Emb UB (UB × US)).trans EBS
def ES : Emb US (MT nD τ sig ℕ (Elt F) ℕ UU ℕ) := (Emb.inr : Emb US (UB × US)).trans EBS

instance ER_landsIn : (ER (F := F)).LandsIn (upEmb : UEmb _ 𝕄) := by unfold ER; infer_instance
instance ES_landsIn : (ES (F := F)).LandsIn (upEmb : UEmb _ 𝕄) := by unfold ES; infer_instance

/-! ## Neighbours -/

/-- Left of right is home, -/
theorem lft_rgt (c : Dev nD) : lft (rgt c) = c := by revert c; decide
/-- and right of left; -/
theorem rgt_lft (c : Dev nD) : rgt (lft c) = c := by revert c; decide
/-- up of down is home, -/
theorem up_dn (r : Fin 4) (c : Dev nD) : up r (dn r c) = c := by revert r c; decide
/-- and down of up. -/
theorem dn_up (r : Fin 4) (c : Dev nD) : dn r (up r c) = c := by revert r c; decide

/-! ## Semaphores -/

/-- The semaphores of one device the protocol uses. -/
inductive CK
  | bar
  | send (r : Fin 4)
  | recv (r : Fin 4) (p : Fin 2)
  | cred (r : Fin 4)
  | exit
deriving DecidableEq

/-- All of them. -/
def allK : List CK :=
  [.bar, .exit, .send 0, .send 1, .send 2, .send 3, .recv 0 0, .recv 0 1, .recv 1 0, .recv 1 1, .recv 2 0, .recv 2 1, .recv 3 0, .recv 3 1,
    .cred 0, .cred 1, .cred 2, .cred 3]
instance : Fintype CK := ⟨allK.toFinset, fun k => by
  cases k with
  | bar => decide
  | exit => decide
  | send r => revert r; decide
  | recv r p => revert r p; decide
  | cred r => revert r; decide⟩

/-- Where each is. -/
def csem : CK → SemLoc sig
  | .bar => .reg semBar
  | .send r => .dma (semSend r)
  | .recv r p => .dma (semRecv r p)
  | .cred r => .reg (semCred r)
  | .exit => .reg semExit

/-- Different semaphores of the protocol are in different places, -/
theorem csem_inj : Function.Injective csem := by
  have h : ∀ a b : CK, csem a = csem b → a = b := by decide +kernel
  exact fun a b => h a b

/-- One semaphore of one device. -/
abbrev kcell (ck : Dev nD × CK) : GSem nD τ sig := ((ck.1 : Thread nD τ), csem ck.2)
abbrev barCell (c : Dev nD) : GSem nD τ sig := kcell (c, .bar)
abbrev sendCell (c : Dev nD) (r : Fin 4) : GSem nD τ sig := kcell (c, .send r)
abbrev recvCell (c : Dev nD) (r : Fin 4) (p : Fin 2) : GSem nD τ sig := kcell (c, .recv r p)
abbrev credCell (c : Dev nD) (r : Fin 4) : GSem nD τ sig := kcell (c, .cred r)
abbrev exitCell (c : Dev nD) : GSem nD τ sig := kcell (c, .exit)

/-- and on different devices they differ. -/
theorem kcell_inj : Function.Injective kcell := by
  rintro ⟨c, k⟩ ⟨c', k'⟩ h
  have h1 : c = c' := congrArg (fun g : GSem nD τ sig => g.1.1) h
  have h2 : csem k = csem k' := congrArg (fun g : GSem nD τ sig => g.2) h
  rw [h1, csem_inj h2]

/-- Which of them a semaphore is. -/
def kind (s : SemLoc sig) : Option CK :=
  open Classical in if h : ∃ k, csem k = s then some h.choose else none
/-- `kind` finds the semaphore back. -/
theorem kind_csem (k : CK) : kind (csem k) = some k := by
  unfold kind
  have h : ∃ k', csem k' = csem k := ⟨k, rfl⟩
  rw [dif_pos h]
  exact congrArg some (csem_inj h.choose_spec)

/-- The units a transferred block is worth on a semaphore. -/
abbrev N : ℕ := (sRecv 0 0).view.dmaCredit
/-- A block is worth something, -/
theorem N_pos : 0 < N := View.dmaCredit_pos _ (by decide)
/-- the same on every slot -/
theorem N_recv (r : Fin 4) (p : Fin 2) : (sRecv r p).view.dmaCredit = N := rfl
/-- and at every source. -/
theorem N_send (r : Fin 4) : (sSend r).view.dmaCredit = N := rfl

/-! ## Contents -/

variable (m : (ℓ : Loc nD τ sig) → Buf (Elt F) ℓ) (ρ : Dev nD → PrngReg)

/-- The memory at launch: arbitrary contents, every semaphore at zero, arbitrary generator registers. -/
def s₀ : MemSt nD τ sig (Elt F) := ⟨m, fun _ => 0, ρ⟩

/-- The device's rows of the first operand, -/
def xstg (c : Dev nD) : (cc0_stg0_0 : Ref sig .tc).ty.Contents (Elt F) :=
  (win0_0.blk (0 : Fin 1)).view.read (Elt F) ((s₀ m ρ).mem ((c : Thread nD τ).loc (main_arg0)))
/-- of the second, -/
def wstg (c : Dev nD) : (cc0_stg1_0 : Ref sig .tc).ty.Contents (Elt F) :=
  (win0_1.blk (0 : Fin 1)).view.read (Elt F) ((s₀ m ρ).mem ((c : Thread nD τ).loc (main_arg1)))
/-- and the two scales. -/
def sxstg (c : Dev nD) : (cc0_stg2_0 : Ref sig .tc).ty.Contents (Elt F) :=
  (win0_2.blk (0 : Fin 1)).view.read (Elt F) ((s₀ m ρ).mem ((c : Thread nD τ).loc (main_arg2)))
def swstg (c : Dev nD) : (cc0_stg3_0 : Ref sig .tc).ty.Contents (Elt F) :=
  (win0_3.blk (0 : Fin 1)).view.read (Elt F) ((s₀ m ρ).mem ((c : Thread nD τ).loc (main_arg3)))

/-- The operands widened. -/
def xbC (c : Dev nD) : (cc0_scratch0 : Ref sig .tc).ty.Contents (Elt F) := k0_pay2 (xstg m ρ c)
def wbC (c : Dev nD) : (cc0_scratch1 : Ref sig .tc).ty.Contents (Elt F) := k0_pay3 (wstg m ρ c)
/-- A row block of the first, a column strip of the second. -/
def xbBlk (c : Dev nD) (i : Fin 9) : Vec F S512x512 .bf16 := (bXb.access (rXb c i)).read (Elt F) (xbC m ρ c)
def wbBlk (c : Dev nD) (r : Fin 4) : Vec F S512x512 .bf16 := (bWb.access (rWb r)).read (Elt F) (wbC m ρ c)
/-- The product of a row block and a column strip at full width. -/
def pcv (c : Dev nD) (r : Fin 4) (i : Fin 9) : Vec F S1x512x512 .f32 := k0_pay9 (xbBlk m ρ c i) (wbBlk m ρ c r)
/-- The one element of a scale. -/
abbrev rS : Rect S1 := Rect.unit (s := S1) ![0] S1.size inb_S1_S1_0
/-- The product of the two scales. -/
def scale (c : Dev nD) : F .f32 :=
  Scalar.mulf ((bSX.access rS).read (Elt F) (sxstg m ρ c) (Shape.Idx.first (numel1_S1.symm ▸ Nat.one_pos)))
    ((bSW.access rS).read (Elt F) (swstg m ρ c) (Shape.Idx.first (numel1_S1.symm ▸ Nat.one_pos)))

/-- A block has as many elements in its send shape -/
theorem numel_send : S512x512.numel = S1x512x512.numel := by decide
/-- and in its receive shape as a matrix. -/
theorem numel_recv : S512x512.numel = S1x1x512x512.numel := by decide
/-- A sent block as the slot holds it: the same elements in the same order. -/
def toRecv {e : EltTy} (v : Vec F S1x512x512 e) : Vec F S1x1x512x512 e :=
  fun y => v (Shape.reshapeEquiv numel_send ((Shape.reshapeEquiv numel_recv).symm y))

/-- What transfer `k` of ring `r` carries out of device `c`. -/
def mS : ℕ → Dev nD → Fin 4 → Vec F S1x512x512 .bf16
  | 0, c, r => k0_pay4 (xbBlk m ρ c (xix r 0)) (wbBlk m ρ c r)
  | k + 1, c, r =>
    if k < 6 then k0_pay14 (toRecv (mS k (up r c) r)) (pcv m ρ c r (xix r (k + 1)))
    else if k = 6 then k0_pay67 (toRecv (mS k (up r c) r)) (pcv m ρ c r (xfin r))
    else k0_pay81 (toRecv (mS k (up r c) r))
/-- The `n`-th block of the result ring `r` stores on device `c`. -/
def outv (c : Dev nD) (r : Fin 4) (n : ℕ) : Vec F S512x512 .f32 :=
  if n = 0 then k0_pay68 (scale m ρ c) (k0_pay66 (toRecv (mS m ρ 6 (up r c) r)) (pcv m ρ c r (xfin r)))
  else if n = 7 then k0_pay138 (scale m ρ c) (toRecv (mS m ρ 13 (up r c) r))
  else k0_pay82 (scale m ρ c) (mS m ρ (n + 7) c r)

/-! ## Holding a block -/

abbrev vSend (r : Fin 4) : View sig .tc .vmem S1x512x512 .bf16 := bSend.access (rSend r)
abbrev vRecv (r : Fin 4) (p : Fin 2) : View sig .tc .vmem S1x1x512x512 .bf16 := bRecv.access (rRecv r p)
abbrev vPc (r : Fin 4) : View sig .tc .vmem S1x512x512 .f32 := bPc.access (rSend r)
abbrev vOut (r : Fin 4) (c : Dev nD) (n : Fin 8) : View sig .tc .vmem S512x512 .f32 := bOut.access (rOut r c n)

section Has
variable {sp : Space} {s : Shape} {e : EltTy}

/-- Device `c` holds the elements of a view at share `q`, with contents `X`. -/
def has (c : Dev nD) (v : View sig .tc sp s e) (q : PosShare TreeShare) (X : s.Idx → Elt F e) : sProp 𝕄 :=
  v.loc (c : Thread nD τ) ↦[v.set]{q} v.write (Elt F) (m (v.loc (c : Thread nD τ))) X Finset.univ
/-- The same whole, with contents unknown. -/
def some' (c : Dev nD) (v : View sig .tc sp s e) : sProp 𝕄 := Release.slot (v.loc (c : Thread nD τ)) v.set

instance has_storable (c : Dev nD) (v : View sig .tc sp s e) (q) (X : s.Idx → Elt F e) :
    BI.Storable (upEmb : UEmb _ 𝕄) (has m c v q X) := by unfold has; infer_instance
instance some'_storable (c : Dev nD) (v : View sig .tc sp s e) :
    BI.Storable (upEmb : UEmb _ 𝕄) (some' (F := F) c v) := by unfold some'; infer_instance

/-- Holding the elements at any buffer contents that read `X` is holding them with contents `X`. -/
theorem has_of_read (c : Dev nD) (v : View sig .tc sp s e) (q : PosShare TreeShare) (f : v.ty.Contents (Elt F)) (X : s.Idx → Elt F e)
    (h : v.read (Elt F) f = X) : (v.loc (c : Thread nD τ) ↦[v.set]{q} f : sProp 𝕄) = has m c v q X := by
  unfold has
  refine pointsTo_congr fun i hi => ?_
  obtain ⟨x, -, rfl⟩ := Finset.mem_map.mp hi
  refine View.eq_of_read_eq (v := v) (x := x) ?_
  rw [View.read_write_univ, h]

/-- A view just written holds what was written. -/
theorem has_write (c : Dev nD) (v : View sig .tc sp s e) (q : PosShare TreeShare) (f : v.ty.Contents (Elt F)) (X : s.Idx → Elt F e) :
    (v.loc (c : Thread nD τ) ↦[v.set]{q} v.write (Elt F) f X Finset.univ : sProp 𝕄) = has m c v q X :=
  has_of_read m c v q _ X (View.read_write_univ _ _)

/-- A view that holds something known holds something. -/
theorem has_some (c : Dev nD) (v : View sig .tc sp s e) (X : s.Idx → Elt F e) : has m c v fullShare X ⊢ some' c v := by
  unfold has some' Release.slot
  iintro H; iexists _; iexact H

/-- A block held whole is two halves of it. -/
theorem has_halves (c : Dev nD) (v : View sig .tc sp s e) (X : s.Idx → Elt F e) :
    has m c v fullShare X ⊣⊢ iprop(has m c v fullShare.left X ∗ has m c v fullShare.right X) := by
  unfold has; exact pointsTo_share (PosShare.mem_left_op_right fullShare)

end Has

/-- The sender's block of ring `r`, -/
def sendHas (c : Dev nD) (r : Fin 4) (q : PosShare TreeShare) (k : ℕ) : sProp 𝕄 := has m c (vSend r) q (mS m ρ k c r)
/-- and the slot transfer `k` landed in. -/
def recvHas (c : Dev nD) (r : Fin 4) (k : ℕ) : sProp 𝕄 := has m c (vRecv r (slot k)) fullShare (toRecv (mS m ρ k (up r c) r))

instance sendHas_storable (c : Dev nD) (r : Fin 4) (q) (k : ℕ) : BI.Storable (upEmb : UEmb _ 𝕄) (sendHas m ρ c r q k) := by
  unfold sendHas; infer_instance
instance recvHas_storable (c : Dev nD) (r : Fin 4) (k : ℕ) : BI.Storable (upEmb : UEmb _ 𝕄) (recvHas m ρ c r k) := by
  unfold recvHas; infer_instance

/-! ## The schedule -/

/-- Device `c`'s slot for transfer `k` of ring `r` is free and its receive semaphore waits for that transfer. -/
def ready (c : Dev nD) (r : Fin 4) (k : ℕ) : sProp 𝕄 :=
  iprop(released ES (c, r, slot k) (k / 2 + 1) ∗ reached ER (recvCell c r (slot k)) (k / 2))

instance ready_persistent (c : Dev nD) (r : Fin 4) (k : ℕ) : BI.Persistent (ready (F := F) c r k) := by
  unfold ready; infer_instance
instance ready_storable (c : Dev nD) (r : Fin 4) (k : ℕ) : BI.Storable (upEmb : UEmb _ 𝕄) (ready (F := F) c r k) := by
  unfold ready; infer_instance

/-- Slots alternate. -/
theorem slot_add2 (k : ℕ) : slot (k + 2) = slot k := Fin.ext (Nat.add_mod_right k 2)

/-- A slot free for a later transfer of the same parity is free for the earlier one. -/
theorem ready_mono (c : Dev nD) (r : Fin 4) (k j : ℕ) : ready (F := F) c r (k + 2 * j) ⊢ ready c r k := by
  have hs : slot (k + 2 * j) = slot k := Fin.ext (Nat.add_mul_mod_self_left k 2 j)
  have hd : k / 2 ≤ (k + 2 * j) / 2 := Nat.div_le_div_right (Nat.le_add_right _ _)
  unfold ready
  rw [hs]
  iintro ⟨#H1, #H2⟩
  isplitr
  · iapply (released_mono ES (Nat.succ_le_succ hd)); iexact H1
  · iapply (reached_mono ER hd); iexact H2

/-- What the barrier signal of a neighbour hands device `c`: the slots of the two rings that go to that neighbour. -/
def barPay (c : Dev nD) (d : ℕ) : sProp 𝕄 :=
  if d = 0 then iprop((ready (rgt c) 0 0 ∗ ready (rgt c) 0 1) ∗ (ready (rgt c) 1 0 ∗ ready (rgt c) 1 1))
  else iprop((ready (lft c) 2 0 ∗ ready (lft c) 2 1) ∗ (ready (lft c) 3 0 ∗ ready (lft c) 3 1))
/-- What credit `d` of ring `r` hands its sender. -/
def credPay (c : Dev nD) (r : Fin 4) (d : ℕ) : sProp 𝕄 := iprop(ready (dn r c) r (d + 1) ∗ ready (dn r c) r (d + 2))

instance credPay_persistent (c : Dev nD) (r : Fin 4) (d : ℕ) : BI.Persistent (credPay (F := F) c r d) := by
  unfold credPay; infer_instance
instance barPay_persistent (c : Dev nD) (d : ℕ) : BI.Persistent (barPay (F := F) c d) := by
  unfold barPay; split <;> infer_instance

instance credPay_storable (c : Dev nD) (r : Fin 4) (d : ℕ) : BI.Storable (upEmb : UEmb _ 𝕄) (credPay (F := F) c r d) := by
  unfold credPay; infer_instance
instance barPay_storable (c : Dev nD) (d : ℕ) : BI.Storable (upEmb : UEmb _ 𝕄) (barPay (F := F) c d) := by
  unfold barPay; split <;> infer_instance

/-- The duties of each round of each semaphore, -/
def dutiesK : CK → ℕ → Finset ℕ
  | .bar, j => if j = 0 then {0, 1} else ∅
  | .send _, j => if j < 14 then {0} else ∅
  | .recv _ _, j => if j < 7 then {0} else ∅
  | .cred _, j => if j = 0 then Finset.range 12 else ∅
  | .exit, j => if j = 0 then {0, 1} else ∅
/-- their size, -/
def amountK : CK → ℕ
  | .send _ | .recv _ _ => N
  | _ => 1
/-- and what they hand over. -/
def payloadK (c : Dev nD) : CK → ℕ → ℕ → sProp 𝕄
  | .bar, _, d => barPay c d
  | .send r, j, _ => sendHas m ρ c r fullShare.right j
  | .recv r p, j, _ => has m c (vRecv r p) fullShare (toRecv (mS m ρ (2 * j + p.val) (up r c) r))
  | .cred r, _, d => credPay c r d
  | .exit, _, _ => iprop(emp)

instance payloadK_storable (c : Dev nD) (k : CK) (j d : ℕ) : BI.Storable (upEmb : UEmb _ 𝕄) (payloadK m ρ c k j d) := by
  cases k <;> unfold payloadK
  all_goals infer_instance

/-- Every duty has a positive amount. -/
theorem amountK_pos (k : CK) : 0 < amountK k := by
  cases k <;> unfold amountK <;> first | exact N_pos | exact Nat.one_pos

/-- The rounds of every semaphore. -/
def ringRd : Rounds.Schedule (GSem nD τ sig) ℕ 𝕄 where
  duties g j := if g.1.2 = .tc then (match kind g.2 with | some k => dutiesK k j | none => ∅) else ∅
  unitless _ := False
  amount g _ _ := match kind g.2 with | some k => amountK k | none => 1
  payload g j d := match kind g.2 with | some k => payloadK m ρ g.1.1 k j d | none => iprop(emp)
  amount_pos g _ _ _ := by
    cases h : kind g.2 with
    | none => exact Nat.one_pos
    | some k => exact amountK_pos k

instance ringRd_payload_storable (g : GSem nD τ sig) (j d : ℕ) :
    BI.Storable (upEmb : UEmb _ 𝕄) ((ringRd m ρ).payload g j d) := by
  show BI.Storable upEmb (match kind g.2 with | some k => payloadK m ρ g.1.1 k j d | none => iprop(emp))
  split <;> infer_instance

/-- The duties, -/
theorem duties_eq (c : Dev nD) (k : CK) (j : ℕ) : (ringRd m ρ).duties (kcell (c, k)) j = dutiesK k j := by
  dsimp only [ringRd]; rw [if_pos rfl, kind_csem]
/-- amounts -/
theorem amount_eq (c : Dev nD) (k : CK) (j d : ℕ) : (ringRd m ρ).amount (kcell (c, k)) j d = amountK k := by
  dsimp only [ringRd]; rw [kind_csem]
/-- and contents of a semaphore of the protocol, -/
theorem payload_eq (c : Dev nD) (k : CK) (j d : ℕ) : (ringRd m ρ).payload (kcell (c, k)) j d = payloadK m ρ c k j d := by
  dsimp only [ringRd]; rw [kind_csem]
/-- and what a round of it adds up to. -/
theorem expect_eq (c : Dev nD) (k : CK) (j : ℕ) : (ringRd m ρ).expect (kcell (c, k)) j = (dutiesK k j).card * amountK k := by
  unfold Schedule.expect Schedule.amountOf
  rw [duties_eq, Finset.sum_congr rfl fun d _ => amount_eq m ρ c k j d, Finset.sum_const, smul_eq_mul]

/-- The round of a semaphore's last duty, plus one. -/
def lastK : CK → ℕ
  | .send _ => 14
  | .recv _ _ => 7
  | _ => 1
/-- After the last duty there is none, -/
theorem dutiesK_later (k : CK) (j : ℕ) (h : lastK k ≤ j) : dutiesK k j = ∅ := by
  cases k <;> simp only [lastK, dutiesK] at h ⊢ <;> exact if_neg (by omega)
/-- on any device. -/
theorem duties_later (c : Dev nD) (k : CK) (j : ℕ) (h : lastK k ≤ j) : (ringRd m ρ).duties (kcell (c, k)) j = ∅ := by
  rw [duties_eq, dutiesK_later k j h]

/-- A round of a send semaphore is one block, -/
theorem expect_send (c : Dev nD) (r : Fin 4) (j : ℕ) (h : j < 14) : (ringRd m ρ).expect (sendCell c r) j = N := by
  rw [expect_eq, show dutiesK (.send r) j = {0} from if_pos h, Finset.card_singleton, one_mul]; rfl
/-- as is one of a receive semaphore; -/
theorem expect_recv (c : Dev nD) (r : Fin 4) (p : Fin 2) (j : ℕ) (h : j < 7) : (ringRd m ρ).expect (recvCell c r p) j = N := by
  rw [expect_eq, show dutiesK (.recv r p) j = {0} from if_pos h, Finset.card_singleton, one_mul]; rfl
/-- the credits are twelve, -/
theorem expect_cred (c : Dev nD) (r : Fin 4) : (ringRd m ρ).expect (credCell c r) 0 = 12 := by
  rw [expect_eq]; rfl
/-- the barrier two -/
theorem expect_bar (c : Dev nD) : (ringRd m ρ).expect (barCell c) 0 = 2 := by
  rw [expect_eq]; rfl
/-- and the exit two. -/
theorem expect_exit (c : Dev nD) : (ringRd m ρ).expect (exitCell c) 0 = 2 := by
  rw [expect_eq]; rfl

/-- A round of a send semaphore hands back the half of the block that the copy held, -/
theorem rest_send (c : Dev nD) (r : Fin 4) (j : ℕ) (h : j < 14) :
    bigSep ((ringRd m ρ).duties (sendCell c r) j \ ∅) (fun d => (ringRd m ρ).payload (sendCell c r) j d) = sendHas m ρ c r fullShare.right j := by
  rw [Finset.sdiff_empty, duties_eq, show dutiesK (.send r) j = {0} from if_pos h, bigSep_singleton, payload_eq]; rfl
/-- one of a receive semaphore the slot with the block, -/
theorem rest_recv (c : Dev nD) (r : Fin 4) (k : ℕ) (h : k < 14) :
    bigSep ((ringRd m ρ).duties (recvCell c r (slot k)) (k / 2) \ ∅) (fun d => (ringRd m ρ).payload (recvCell c r (slot k)) (k / 2) d)
      = recvHas m ρ c r k := by
  rw [Finset.sdiff_empty, duties_eq, show dutiesK (.recv r (slot k)) (k / 2) = {0} from if_pos (by omega), bigSep_singleton, payload_eq]
  show has m c (vRecv r (slot k)) fullShare (toRecv (mS m ρ (2 * (k / 2) + (slot k).val) (up r c) r)) = _
  rw [show 2 * (k / 2) + (slot k).val = k from Nat.div_add_mod k 2]; rfl
/-- and the barrier's what both neighbours say. -/
theorem rest_bar (c : Dev nD) :
    bigSep ((ringRd m ρ).duties (barCell c) 0 \ ∅) (fun d => (ringRd m ρ).payload (barCell c) 0 d) = iprop(barPay c 0 ∗ barPay c 1) := by
  rw [Finset.sdiff_empty, duties_eq, show dutiesK .bar 0 = {0, 1} from rfl, bigSep_insert (by decide), bigSep_singleton, payload_eq, payload_eq]; rfl

/-! ## Levels and what a device owes -/

def L (g : GSem nD τ sig) : Finset ℕ := if g.1.2 = .tc then Finset.range 200 else ∅
def lv (_ : GSem nD τ sig) (ι : ℕ) : ℕ := ι

/-- Only the devices' own threads have levels, -/
theorem L_of_ne (g : GSem nD τ sig) (h : g.1.2 ≠ .tc) : L g = ∅ := if_neg h
/-- and there each semaphore has all of them. -/
theorem L_tc (c : Dev nD) (sm : SemLoc sig) : L ((c : Thread nD τ), sm) = Finset.range 200 := if_pos rfl

/-- Everything owed is at a level above `n`. -/
def Above (n : ℕ) (O : CellTallies nD τ sig ℕ) : Prop := ∀ g u, 0 < O g u → g.1.2 = .tc ∧ n < u ∧ u < 200

/-- Owing nothing is above every level. -/
theorem Above.zero (n : ℕ) : Above n 0 := fun g u h => absurd h (Nat.lt_irrefl 0)
/-- Two debts above a level are together above it. -/
theorem Above.add {n : ℕ} {O O' : CellTallies nD τ sig ℕ} (h : Above n O) (h' : Above n O') : Above n (O + O') := fun g u hg => by
  rw [Pi.add_apply, Finsupp.add_apply] at hg
  rcases Nat.eq_zero_or_pos (O g u) with h0 | h0
  · exact h' g u (by omega)
  · exact h g u h0
/-- A debt at one level is above those below, -/
theorem Above.tally {n : ℕ} (c : Dev nD) (k : CK) (ι a : ℕ) (h : n < ι) (h' : ι < 200) : Above n (tallyAt (kcell (c, k)) ι a) := fun g u hg => by
  rw [tallyAt_apply] at hg
  by_cases hh : g = kcell (c, k) ∧ u = ι
  · rw [hh.1, hh.2]; exact ⟨rfl, h, h'⟩
  · rw [if_neg hh] at hg; exact absurd hg (Nat.lt_irrefl 0)
/-- as are many, -/
theorem Above.sum {n : ℕ} {T : Type} [DecidableEq T] (S : Finset T) (f : T → CellTallies nD τ sig ℕ) (h : ∀ t ∈ S, Above n (f t)) :
    Above n (∑ t ∈ S, f t) := by
  induction S using Finset.induction_on with
  | empty => rw [Finset.sum_empty]; exact Above.zero n
  | insert t S ht ih =>
    rw [Finset.sum_insert ht]
    exact (h t (Finset.mem_insert_self _ _)).add (ih fun t' h' => h t' (Finset.mem_insert_of_mem h'))
/-- and what is above a level is above a lower one. -/
theorem Above.mono {n n' : ℕ} {O : CellTallies nD τ sig ℕ} (h : Above n O) (hn : n' ≤ n) : Above n' O := fun g u hg =>
  ⟨(h g u hg).1, lt_of_le_of_lt hn (h g u hg).2.1, (h g u hg).2.2⟩

/-- A device may wait at level `ι` while everything it owes is above. -/
theorem mayWait (c : Dev nD) (sm : SemLoc sig) (ι : ℕ) (hι : ι < 200) (O : CellTallies nD τ sig ℕ) (h : Above ι O) :
    (levAts L lv : sProp 𝕄) ⊢ MayWait (c : Thread nD τ) sm ι O :=
  MayOwe.of_cut (L := L) (lev := lv) ι
    (fun p hp => by rw [Finset.mem_singleton.mp hp, L_tc]; exact Finset.mem_range.mpr hι)
    (fun g u hg => by unfold L; rw [if_pos (h g u hg).1]; exact Finset.mem_range.mpr (h g u hg).2.2)
    (fun p hp => by rw [Finset.mem_singleton.mp hp]; exact le_refl ι)
    (fun g u hg => (h g u hg).2.1)

/-- What ring `r` of device `c` still owes after `k` transfers and `k - 1` credits. -/
def sendOw (c : Dev nD) (r : Fin 4) (k : ℕ) : CellTallies nD τ sig ℕ :=
  ∑ i ∈ Finset.Ico k 14, tallyAt (recvCell (dn r c) r (slot i)) (2 + 2 * i) N
def credOw (c : Dev nD) (r : Fin 4) (n : ℕ) : CellTallies nD τ sig ℕ :=
  ∑ i ∈ Finset.Ico n 12, tallyAt (credCell (up r c) r) (3 + 2 * i) 1
def ringOw (c : Dev nD) (r : Fin 4) (k : ℕ) : CellTallies nD τ sig ℕ := sendOw c r k + credOw c r (k - 1)
def exitOw (c : Dev nD) : CellTallies nD τ sig ℕ := tallyAt (exitCell (rgt c)) 100 1 + tallyAt (exitCell (lft c)) 100 1
def allOw (c : Dev nD) (k : ℕ) : CellTallies nD τ sig ℕ := ringOw c 0 k + ringOw c 1 k + ringOw c 2 k + ringOw c 3 k
/-- What a device owes at launch. -/
def O₀ (c : Dev nD) : CellTallies nD τ sig ℕ :=
  (exitOw c + allOw c 0 + tallyAt (barCell (rgt c)) 1 1) + tallyAt (barCell (lft c)) 1 1

/-- The transfers still owed are at the level of the next and higher, -/
theorem sendOw_above (c : Dev nD) (r : Fin 4) (k n : ℕ) (h : n < 2 + 2 * k) : Above n (sendOw c r k) :=
  Above.sum _ _ fun i hi => Above.tally _ _ _ _ (by have := Finset.mem_Ico.mp hi; omega) (by have := Finset.mem_Ico.mp hi; omega)
/-- as are the credits still owed, -/
theorem credOw_above (c : Dev nD) (r : Fin 4) (k n : ℕ) (h : n < 3 + 2 * k) : Above n (credOw c r k) :=
  Above.sum _ _ fun i hi => Above.tally _ _ _ _ (by have := Finset.mem_Ico.mp hi; omega) (by have := Finset.mem_Ico.mp hi; omega)
/-- and so is all that a ring owes. -/
theorem ringOw_above (c : Dev nD) (r : Fin 4) (k n : ℕ) (h : n < 2 + 2 * k) (h' : n < 3 + 2 * (k - 1)) : Above n (ringOw c r k) :=
  (sendOw_above c r k n h).add (credOw_above c r (k - 1) n h')
/-- The exit comes last. -/
theorem exitOw_above (c : Dev nD) (n : ℕ) (h : n < 100) : Above n (exitOw c) :=
  (Above.tally _ _ _ _ h (by decide)).add (Above.tally _ _ _ _ h (by decide))

/-- An interval is its first number and the rest, -/
theorem Ico_peel (a b : ℕ) (h : a < b) : Finset.Ico a b = insert a (Finset.Ico (a + 1) b) := by
  ext i; simp only [Finset.mem_Ico, Finset.mem_insert]; omega
/-- the first not among the rest, -/
theorem not_mem_Ico_succ (a b : ℕ) : a ∉ Finset.Ico (a + 1) b := fun hm => by have := Finset.mem_Ico.mp hm; omega
/-- and so is a sum over it. -/
theorem sum_Ico_peel {A : Type} [AddCommMonoid A] (f : ℕ → A) (a b : ℕ) (h : a < b) :
    ∑ i ∈ Finset.Ico a b, f i = ∑ i ∈ Finset.Ico (a + 1) b, f i + f a := by
  rw [Ico_peel a b h, Finset.sum_insert (not_mem_Ico_succ a b), add_comm]
/-- Of the transfers owed the next can be taken, -/
theorem sendOw_peel (c : Dev nD) (r : Fin 4) (k : ℕ) (h : k < 14) :
    sendOw c r k = sendOw c r (k + 1) + tallyAt (recvCell (dn r c) r (slot k)) (2 + 2 * k) N := sum_Ico_peel _ _ _ h
/-- as can the next credit. -/
theorem credOw_peel (c : Dev nD) (r : Fin 4) (k : ℕ) (h : k < 12) :
    credOw c r k = credOw c r (k + 1) + tallyAt (credCell (up r c) r) (3 + 2 * k) 1 := sum_Ico_peel _ _ _ h
/-- After twelve credits no more is owed, -/
theorem credOw_done (c : Dev nD) (r : Fin 4) (k : ℕ) (h : 12 ≤ k) : credOw c r k = 0 := by
  unfold credOw; rw [Finset.Ico_eq_empty_of_le h, Finset.sum_empty]
/-- after fourteen transfers no more, -/
theorem sendOw_done (c : Dev nD) (r : Fin 4) (k : ℕ) (h : 14 ≤ k) : sendOw c r k = 0 := by
  unfold sendOw; rw [Finset.Ico_eq_empty_of_le h, Finset.sum_empty]
/-- and then the rings owe nothing. -/
theorem allOw_done (c : Dev nD) : allOw c 14 = 0 := by
  unfold allOw ringOw; simp only [sendOw_done c _ 14 (le_refl _), credOw_done c _ 13 (by decide), add_zero, Nat.reduceSub]

/-- A family over an interval is its first member and the rest. -/
theorem bigSep_Ico_peel (Φ : ℕ → sProp 𝕄) (a b : ℕ) (h : a < b) :
    bigSep (Finset.Ico a b) Φ = iprop(Φ a ∗ bigSep (Finset.Ico (a + 1) b) Φ) := by
  rw [Ico_peel a b h, bigSep_insert (not_mem_Ico_succ a b)]; rfl

end Cert.Ring
-- ==== Proof.Steps.lean ====
/- One step of one ring, as a rule: what it needs and what it leaves. -/
module

public import proofs.«01_k».proof.Proof.Setup

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slot_take slot_release slots_init released released_mono readerAt writeTok slotInv)

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × CK → ℕ) (Ks : Key → ℕ)

/-! ## What every device knows -/

/-- The slot of a key, at any contents. -/
abbrev keySlot (k : Key) : sProp 𝕄 := some' k.1 (vRecv k.2.1 k.2.2)

/-- The invariants of all semaphores and all slots, the levels, and that round 0 of every semaphore is open. -/
def ctx : sProp 𝕄 :=
  iprop(bigSep Finset.univ (fun ck => cellInv ER (ringRd m ρ) (K ck) (kcell ck))
    ∗ bigSep Finset.univ (fun k : Key => slotInv ES (Ks k) k (keySlot k))
    ∗ bigSep Finset.univ (fun ck => reached ER (kcell ck) 0)
    ∗ levAts L lv)

instance ctx_persistent : BI.Persistent (ctx m ρ K Ks) := by unfold ctx; infer_instance

/-- The shared context holds the invariant of every semaphore, -/
theorem ctx_cell (c : Dev nD) (k : CK) : ctx m ρ K Ks ⊢ cellInv ER (ringRd m ρ) (K (c, k)) (kcell (c, k)) := by
  unfold ctx
  iintro ⟨#H, -⟩
  have h : bigSep Finset.univ (fun ck : Dev nD × CK => cellInv ER (ringRd m ρ) (K ck) (kcell ck)) ⊢ cellInv ER (ringRd m ρ) (K (c, k)) (kcell (c, k)) :=
    bigSep_elim (Finset.mem_univ (c, k))
  iapply h; iexact H
/-- that of every slot, -/
theorem ctx_slot (k : Key) : ctx m ρ K Ks ⊢ slotInv ES (Ks k) k (keySlot k) := by
  unfold ctx
  iintro ⟨-, #H, -⟩
  have h : bigSep Finset.univ (fun k : Key => slotInv ES (Ks k) k (keySlot (F := F) k)) ⊢ slotInv ES (Ks k) k (keySlot k) :=
    bigSep_elim (Finset.mem_univ k)
  iapply h; iexact H
/-- that every semaphore has reached its first round, -/
theorem ctx_reached (c : Dev nD) (k : CK) : ctx m ρ K Ks ⊢ reached ER (kcell (c, k)) 0 := by
  unfold ctx
  iintro ⟨-, -, #H, -⟩
  have h : bigSep Finset.univ (fun ck : Dev nD × CK => reached (ER (F := F)) (kcell ck) 0) ⊢ reached ER (kcell (c, k)) 0 :=
    bigSep_elim (Finset.mem_univ (c, k))
  iapply h; iexact H
/-- and the levels that allow a wait. -/
theorem ctx_wait (c : Dev nD) (sm : SemLoc sig) (ι : ℕ) (hι : ι < 200) (O : CellTallies nD τ sig ℕ) (h : Above ι O) :
    ctx m ρ K Ks ⊢ MayWait (c : Thread nD τ) sm ι O := by
  unfold ctx
  iintro ⟨-, -, -, #H⟩
  iapply (mayWait c sm ι hι O h); iexact H

/-- What device `c` owes, whatever it has waited for. -/
def ow (c : Dev nD) (O : CellTallies nD τ sig ℕ) : sProp 𝕄 := iprop(∃ W, owes (c : Thread nD τ) O W)

abbrev 𝒱₀ : Variants := Variants.none
/-- The program `p` on device `c` reaches `Q`. -/
abbrev wpc {α : Type} (c : Dev nD) (p : Pr F α) (Q : α → sProp 𝕄) : sProp 𝕄 :=
  wp frame (wpE (defs₀ (F := F)) 𝒱₀ (c : Thread nD τ) none) Set.univ p Q

/-! ## Transfers -/

/-- What transfer `k` needs of the sender beside the block. -/
def sendKit (c : Dev nD) (r : Fin 4) (k : ℕ) : sProp 𝕄 :=
  iprop(writeTok ES (dn r c, r, slot k) (k / 2 + 1) ∗ dutyTok ER (recvCell (dn r c) r (slot k)) (k / 2) 0 ∗ dutyTok ER (sendCell c r) k 0)

/-- The landed block, read through the slot's own shape. -/
theorem read_landed (r : Fin 4) (p : Fin 2) (fd : (vRecv r p).ty.Contents (Elt F)) (fs : (vSend r).ty.Contents (Elt F)) :
    (vRecv r p).read (Elt F) ((sRecv r p).view.write (Elt F) fd ((sSend r).view.read (Elt F) fs) Finset.univ)
      = toRecv ((vSend r).read (Elt F) fs) := by
  funext y
  obtain ⟨x, rfl⟩ := (Shape.reshapeEquiv numel_recv).surjective y
  refine (View.read_write_reshape (v := vRecv r p) numel_recv fd ((sSend r).view.read (Elt F) fs) x).trans ?_
  unfold toRecv
  rw [Equiv.symm_apply_apply]
  rfl

/-- The start of transfer `k`: the block, its slot free on the receiver, and the duties of both semaphores; one half of
    the block stays readable. -/
theorem wp_send_step (c : Dev nD) (r : Fin 4) (k : ℕ) (hk : k < 14) (O : CellTallies nD τ sig ℕ) (Q : PUnit → sProp 𝕄) :
    iprop(ctx m ρ K Ks ∗ sendKit c r k ∗ ready (dn r c) r k ∗ reached ER (sendCell c r) k ∗ sendHas m ρ c r fullShare k
        ∗ ow c (O + tallyAt (recvCell (dn r c) r (slot k)) (2 + 2 * k) N)
        ∗ ((cred (tallyAt (sendCell c r) 0 N) ∗ sendHas m ρ c r fullShare.left k ∗ ow c O) -∗ Q ⟨⟩))
      ⊢ wpc c (send c r k) Q := by
  iintro ⟨#Hctx, Hkit, #Hready, #Hreach, Hs, Hown, HQ⟩
  unfold sendKit ready ow
  icases Hkit with ⟨Hw, Hd, Hds⟩
  icases Hready with ⟨Hrel, Hrr⟩
  icases Hown with ⟨%W, Hown⟩
  ihave HI := (ctx_slot m ρ K Ks (dn r c, r, slot k)) $$ Hctx
  imod (slot_take ES (Set.mem_univ (Ks (dn r c, r, slot k))) (k / 2 + 1)) $$ [HI Hw] with Hslot
  · isplitl [HI]; · iexact HI
    isplitr; · iexact Hrel
    iexact Hw
  unfold keySlot some' Release.slot
  icases Hslot with ⟨%fd, Hslot⟩
  unfold sendHas
  ihave Hh := (has_halves m c (vSend r) (mS m ρ k c r)).1 $$ Hs
  icases Hh with ⟨Hl, Hr⟩
  unfold send
  ihave HI1 := (ctx_cell m ρ K Ks c (.send r)) $$ Hctx
  ihave HI2 := (ctx_cell m ρ K Ks (dn r c) (.recv r (slot k))) $$ Hctx
  iapply (Rounds.wp_send_pointsTo 𝒱₀ ER (ringRd m ρ) (c : Thread nD τ) none (c' := (dn r c : Thread nD τ))
    (src := sSend r) (dst := sRecv r (slot k)) (sS := .dma (semSend r)) (sem := .dma (semRecv r (slot k)))
    (κ₁ := K (c, .send r)) (κ₂ := K (dn r c, .recv r (slot k)))
    (q := fullShare.right) (fs := (vSend r).write (Elt F) (m ((vSend r).loc (c : Thread nD τ))) (mS m ρ k c r) Finset.univ)
    (r₁ := k) (r₂ := k / 2) (d₁ := 0) (d₂ := 0) (fd := fd)
    (by show _ ∈ (ringRd m ρ).duties (kcell (c, CK.send r)) k; rw [duties_eq m ρ c (.send r) k, show dutiesK (.send r) k = {0} from if_pos hk]; exact Finset.mem_singleton_self _)
    (by show _ ∈ (ringRd m ρ).duties (kcell (dn r c, CK.recv r (slot k))) (k / 2); rw [duties_eq m ρ (dn r c) (.recv r (slot k)) (k / 2), show dutiesK (.recv r (slot k)) (k / 2) = {0} from if_pos (by omega)]; exact Finset.mem_singleton_self _)
    (2 + 2 * k) 0 N rfl (amount_eq m ρ c (.send r) k 0) (amount_eq m ρ (dn r c) (.recv r (slot k)) (k / 2) 0) O rfl (W := W)
    (by
      refine BIBase.Entails.trans ?_ (Entails.of_eq (payload_eq m ρ c (.send r) k 0).symm)
      show _ ⊢ sendHas m ρ c r fullShare.right k
      unfold sendHas has
      rw [View.set_reshape])
    (by
      refine BIBase.Entails.trans ?_ (Entails.of_eq (payload_eq m ρ (dn r c) (.recv r (slot k)) (k / 2) 0).symm)
      show _ ⊢ has m (dn r c) (vRecv r (slot k)) fullShare (toRecv (mS m ρ (2 * (k / 2) + (slot k).val) (up r (dn r c)) r))
      rw [show 2 * (k / 2) + (slot k).val = k from Nat.div_add_mod k 2, up_dn, View.set_reshape]
      refine Entails.of_eq (has_of_read m (dn r c) (vRecv r (slot k)) fullShare _ _ ?_)
      rw [read_landed, View.read_write_univ]))
    $$ [HI1 HI2 Hr Hslot Hown Hd Hds]
  · isplitl [HI1]; · iexact HI1
    isplitl [HI2]; · iexact HI2
    isplitl [Hr]
    · unfold has; rw [View.set_reshape]; iexact Hr
    isplitl [Hslot]
    · rw [View.set_reshape]; iexact Hslot
    isplitl [Hown]; · iexact Hown
    isplitl [Hds]; · iexact Hds
    isplitr; · iexact Hreach
    isplitl [Hd]; · iexact Hd
    iexact Hrr
  iintro ⟨Hc, Hown⟩
  rw [wp_ret]; imodintro
  iapply HQ
  isplitl [Hc]; · iexact Hc
  isplitl [Hl]; · iexact Hl
  iexists W; iexact Hown

/-- Where the receive semaphore of transfer `k`'s slot stands before that transfer is waited for. -/
def recvPos (c : Dev nD) (r : Fin 4) (k : ℕ) : sProp 𝕄 := atPos ER (recvCell c r (slot k)) (k / 2) ∅ 0
/-- The right to wait for transfer `k`. -/
def waitKit (c : Dev nD) (r : Fin 4) (k : ℕ) : sProp 𝕄 := cred (tallyAt (recvCell c r (slot k)) (2 + 2 * k) N)

/-- Two transfers on, the slot's receive semaphore is one round on. -/
theorem recvPos_next (c : Dev nD) (r : Fin 4) (k : ℕ) :
    (recvPos c r (k + 2) : sProp 𝕄) = atPos ER (recvCell c r (slot k)) (k / 2 + 1) ∅ 0 := by
  unfold recvPos; rw [slot_add2, Nat.add_div_right k (by decide : 0 < 2)]

/-- The wait for transfer `k` in and for transfer `k` out: the slot holding the block, and the sender's own block back. -/
theorem wp_wait_step (c : Dev nD) (r : Fin 4) (k : ℕ) (hk : k < 14) (O : CellTallies nD τ sig ℕ) (hO : Above (2 + 2 * k) O) (Q : PUnit → sProp 𝕄) :
    iprop(ctx m ρ K Ks ∗ waitKit c r k ∗ recvPos c r k ∗ cred (tallyAt (sendCell c r) 0 N) ∗ atPos ER (sendCell c r) k ∅ 0
        ∗ sendHas m ρ c r fullShare.left k ∗ ow c O
        ∗ ((recvPos c r (k + 2) ∗ reached ER (recvCell c r (slot k)) (k / 2 + 1) ∗ recvHas m ρ c r k
            ∗ atPos ER (sendCell c r) (k + 1) ∅ 0 ∗ reached ER (sendCell c r) (k + 1) ∗ sendHas m ρ c r fullShare k ∗ ow c O) -∗ Q ⟨⟩))
      ⊢ wpc c (waitBoth r k) Q := by
  iintro ⟨#Hctx, Hkit, Hpos, Hcs, Hats, Hl, Hown, HQ⟩
  unfold waitKit recvPos ow
  icases Hown with ⟨%W, Hown⟩
  unfold waitBoth
  simp only [wpc, wp_bind]
  ihave HI1 := (ctx_cell m ρ K Ks c (.send r)) $$ Hctx
  ihave HI2 := (ctx_cell m ρ K Ks c (.recv r (slot k))) $$ Hctx
  iapply (Rounds.wp_wait_rest_token 𝒱₀ ER (ringRd m ρ) (c : Thread nD τ) none (κ := K (c, .recv r (slot k)))
      (wpE_waitDma2_eq 𝒱₀ (c : Thread nD τ) none Set.univ) (Set.mem_univ _) (2 + 2 * k) (O := O) (W := W) (R := k / 2) (m := 0) (T := ∅)
      (by rw [Nat.zero_add]; exact (expect_recv m ρ c r (slot k) (k / 2) (by omega)).symm)) $$ [HI2 Hkit Hown Hpos]
  · isplitl [HI2]; · iexact HI2
    isplitl [Hkit]; · iexact Hkit
    isplitl [Hown]; · iexact Hown
    isplitr
    · iapply (ctx_wait m ρ K Ks c (.dma (semRecv r (slot k))) (2 + 2 * k) (by omega) O hO); iexact Hctx
    iexact Hpos
  iintro ⟨Hown, Hpos, #Hre, Hpay⟩
  ihave Hrecv : recvHas m ρ c r k $$ [Hpay]
  · iapply (Entails.of_eq (rest_recv m ρ c r k hk)); iexact Hpay
  rw [wp_ret]; imodintro
  iapply (Rounds.wp_wait_rest_token 𝒱₀ ER (ringRd m ρ) (c : Thread nD τ) none (κ := K (c, .send r))
      (wpE_waitDma2_eq 𝒱₀ (c : Thread nD τ) none Set.univ) (Set.mem_univ _) 0 (O := O) (W := insert (SemLoc.dma (semRecv r (slot k)), 2 + 2 * k) W) (R := k) (m := 0) (T := ∅)
      (by rw [Nat.zero_add]; exact (expect_send m ρ c r k hk).symm)) $$ [HI1 Hcs Hown Hats]
  · isplitl [HI1]; · iexact HI1
    isplitl [Hcs]; · iexact Hcs
    isplitl [Hown]; · iexact Hown
    isplitr
    · iapply (ctx_wait m ρ K Ks c (.dma (semSend r)) 0 (by omega) O (hO.mono (Nat.zero_le _))); iexact Hctx
    iexact Hats
  iintro ⟨Hown, Hats, #Hrs, Hpay⟩
  ihave Hr : sendHas m ρ c r fullShare.right k $$ [Hpay]
  · iapply (Entails.of_eq (rest_send m ρ c r k hk)); iexact Hpay
  rw [wp_ret]; imodintro
  iapply HQ
  isplitl [Hpos]
  · rw [slot_add2, Nat.add_div_right k (by decide : 0 < 2)]; iexact Hpos
  isplitr; · iexact Hre
  isplitl [Hrecv]; · iexact Hrecv
  isplitl [Hats]; · iexact Hats
  isplitr; · iexact Hrs
  isplitl [Hl Hr]
  · unfold sendHas
    iapply (has_halves m c (vSend r) (mS m ρ k c r)).2
    isplitl [Hl]; · iexact Hl
    iexact Hr
  iexists _; iexact Hown

/-! ## Credits -/

/-- How often the reader has freed the slot of transfer `k` before reading that transfer. -/
def rdAt (c : Dev nD) (r : Fin 4) (k : ℕ) : sProp 𝕄 := readerAt ES (c, r, slot k) (k / 2 + 1)
/-- The duty of credit `n` towards the sender. -/
def credKit (c : Dev nD) (r : Fin 4) (n : ℕ) : sProp 𝕄 := dutyTok ER (credCell (up r c) r) 0 n

/-- A slot has elements, -/
theorem slot_nonempty (r : Fin 4) (p : Fin 2) : (vRecv r p).set.Nonempty := by
  refine ⟨(vRecv r p).emb (fun a => ⟨0, ?_⟩), View.emb_mem_set _ _⟩
  revert a; decide

/-- so nobody else holds it too. -/
theorem keySlot_false (k : Key) : iprop(keySlot (F := F) k ∗ keySlot k) ⊢ (False : sProp 𝕄) :=
  Release.slot_slot_false (ℓ := (vRecv k.2.1 k.2.2).loc (k.1 : Thread nD τ)) (I := (vRecv k.2.1 k.2.2).set) (slot_nonempty k.2.1 k.2.2)

/-- Freeing the slot of transfer `n` and telling the sender. -/
theorem wp_credit_step (c : Dev nD) (r : Fin 4) (n : ℕ) (hn : n < 12) (O : CellTallies nD τ sig ℕ) (Q : PUnit → sProp 𝕄) :
    iprop(ctx m ρ K Ks ∗ credKit c r n ∗ ready c r (n + 1) ∗ rdAt c r n ∗ reached ER (recvCell c r (slot n)) (n / 2 + 1)
        ∗ some' c (vRecv r (slot n)) ∗ ow c (O + tallyAt (credCell (up r c) r) (3 + 2 * n) 1)
        ∗ ((rdAt c r (n + 2) ∗ ready c r (n + 2) ∗ ow c O) -∗ Q ⟨⟩))
      ⊢ wpc c (credit c r) Q := by
  iintro ⟨#Hctx, Hkit, #Hr1, Hrd, #Hre, Hslot, Hown, HQ⟩
  unfold credKit rdAt ow
  icases Hown with ⟨%W, Hown⟩
  ihave HI := (ctx_slot m ρ K Ks (c, r, slot n)) $$ Hctx
  imod (slot_release ES (Set.mem_univ (Ks (c, r, slot n))) (keySlot_false (c, r, slot n)) (n / 2 + 1)) $$ [HI Hrd Hslot] with ⟨Hrd, #Hrel⟩
  · isplitl [HI]; · iexact HI
    isplitl [Hrd]; · iexact Hrd
    iexact Hslot
  have e2 : (n + 2) / 2 = n / 2 + 1 := Nat.add_div_right n (by decide : 0 < 2)
  ihave #Hr2 : ready c r (n + 2) $$ []
  · unfold ready; rw [slot_add2, e2]
    isplitr; · iexact Hrel
    iexact Hre
  ihave HI1 := (ctx_cell m ρ K Ks (up r c) (.cred r)) $$ Hctx
  ihave #H0 := (ctx_reached m ρ K Ks (up r c) (.cred r)) $$ Hctx
  have hp : (ringRd m ρ).payload ((up r c : Thread nD τ), SemLoc.reg (semCred r)) 0 n = iprop(ready c r (n + 1) ∗ ready c r (n + 2)) :=
    (payload_eq m ρ (up r c) (.cred r) 0 n).trans (by show credPay (up r c) r n = _; unfold credPay; rw [dn_up])
  unfold credit semSignalWord
  iapply (Rounds.wp_signal 𝒱₀ ER (ringRd m ρ) (c : Thread nD τ) none (dst := (up r c : Thread nD τ)) (κ := K (up r c, .cred r))
      (sem := semCred r) (r := 0) (d := n)
      (by show _ ∈ (ringRd m ρ).duties (kcell (up r c, CK.cred r)) 0; rw [duties_eq m ρ (up r c) (.cred r) 0]; exact Finset.mem_range.mpr hn)
      ((amount_eq m ρ (up r c) (.cred r) 0 n).trans rfl) (3 + 2 * n) O rfl)
    $$ [HI1 Hown Hkit]
  · isplitl [HI1]; · iexact HI1
    isplitl [Hown]; · iexact Hown
    isplitl [Hkit]; · iexact Hkit
    isplitr
    · rw [hp]
      isplitr; · iexact Hr1
      iexact Hr2
    iexact H0
  iintro Hown
  rw [wp_ret]; imodintro
  iapply HQ
  isplitl [Hrd]
  · rw [slot_add2, e2]; iexact Hrd
  isplitr; · iexact Hr2
  iexists W; iexact Hown

/-- The right to wait for the `n`-th credit. -/
def awaitKit (c : Dev nD) (r : Fin 4) (n : ℕ) : sProp 𝕄 := cred (tallyAt (credCell c r) (3 + 2 * n) 1)
/-- After `n` credits: some `S` of the twelve have come in, at least `n` of them. -/
def credSt (c : Dev nD) (r : Fin 4) (n : ℕ) : sProp 𝕄 :=
  iprop(∃ S : Finset ℕ, ⌜S ⊆ Finset.range 12 ∧ n + (Finset.range 12 \ S).card ≤ 12⌝ ∗ atPos ER (credCell c r) 0 S n
    ∗ bigSep S (fun d => credPay c r d))

/-- Waiting for the next credit. -/
theorem wp_await_step (c : Dev nD) (r : Fin 4) (n : ℕ) (hn : n < 12) (O : CellTallies nD τ sig ℕ) (hO : Above (3 + 2 * n) O) (Q : PUnit → sProp 𝕄) :
    iprop(ctx m ρ K Ks ∗ awaitKit c r n ∗ credSt c r n ∗ ow c O ∗ ((credSt c r (n + 1) ∗ ow c O) -∗ Q ⟨⟩))
      ⊢ wpc c (await r) Q := by
  iintro ⟨#Hctx, Hkit, Hst, Hown, HQ⟩
  unfold awaitKit credSt ow
  icases Hown with ⟨%W, Hown⟩
  icases Hst with ⟨%T, %hT, Hat, #Hpays⟩
  ihave HI := (ctx_cell m ρ K Ks c (.cred r)) $$ Hctx
  unfold await semWaitWord
  have hd : (ringRd m ρ).duties (kcell (c, CK.cred r)) 0 = Finset.range 12 := duties_eq m ρ c (.cred r) 0
  iapply (Rounds.wp_wait 𝒱₀ ER (ringRd m ρ) (c : Thread nD τ) none (κ := K (c, .cred r)) (sm := .reg (semCred r)) (k' := 1)
      (wpE_semWait_eq 𝒱₀ (c : Thread nD τ) none Set.univ) (Set.mem_univ _)
      (cr := Finsupp.single (3 + 2 * n) 1) (O := O) (W := W) {(SemLoc.reg (semCred r), 3 + 2 * n)} (R := 0) (m := n) (T := T)
      (by rw [Util.total_single]) (image_single_subset _ _ _)) $$ [HI Hkit Hown Hat]
  · isplitl [HI]; · iexact HI
    isplitl [Hkit]; · iexact Hkit
    isplitl [Hown]; · iexact Hown
    isplitr
    · iapply (ctx_wait m ρ K Ks c (.reg (semCred r)) (3 + 2 * n) (by omega) O hO); iexact Hctx
    iexact Hat
  iintro %S ⟨%hS, Hown, Hat, Hpay⟩
  rw [wp_ret]; imodintro
  iapply HQ
  isplitr [Hown]
  · iexists S
    isplitr
    · ipureintro
      have h2 := hS.2.1
      have h3 := hS.2.2
      rw [show (ringRd m ρ).expect ((c : Thread nD τ), SemLoc.reg (semCred r)) 0 = 12 from expect_cred m ρ c r] at h3
      rw [show (ringRd m ρ).duties ((c : Thread nD τ), SemLoc.reg (semCred r)) 0 = Finset.range 12 from hd] at h2 h3
      exact ⟨h2, h3⟩
    isplitl [Hat]; · iexact Hat
    have hu : bigSep S (fun d => credPay (F := F) c r d) = iprop(bigSep T (fun d => credPay c r d) ∗ bigSep (S \ T) (fun d => credPay c r d)) := by
      conv_lhs => rw [← Finset.union_sdiff_of_subset hS.1]
      exact bigSep_union Finset.disjoint_sdiff
    rw [hu]
    isplitr; · iexact Hpays
    have he : bigSep (S \ T) (fun d => (ringRd m ρ).payload ((c : Thread nD τ), SemLoc.reg (semCred r)) 0 d) = bigSep (S \ T) (fun d => credPay c r d) :=
      BI.bigSep_congr fun d _ => payload_eq m ρ c (.cred r) 0 d
    iapply (Entails.of_eq he); iexact Hpay
  iexists _; iexact Hown

/-- With `n + 1` credits in, the slot of transfer `n + 2` is free. -/
theorem credSt_ready (c : Dev nD) (r : Fin 4) (n : ℕ) (hn : n < 12) : credSt (F := F) c r (n + 1) ⊢ iprop(credSt c r (n + 1) ∗ ready (dn r c) r (n + 2)) := by
  unfold credSt
  iintro ⟨%S, %hS, Hat, #Hpays⟩
  have hex : ∃ d ∈ S, n ≤ d := by
    by_contra hne
    have hsub : S ⊆ Finset.range n := fun d hd => Finset.mem_range.mpr (by
      by_contra h; exact hne ⟨d, hd, by omega⟩)
    have h1 := Finset.card_le_card hsub
    have h2 := Finset.card_sdiff_add_card_eq_card hS.1
    rw [Finset.card_range] at h1 h2
    have h3 := hS.2
    omega
  obtain ⟨d, hd, hnd⟩ := hex
  have hel : bigSep S (fun d => credPay (F := F) c r d) ⊢ credPay c r d := bigSep_elim hd
  ihave #Hd := hel $$ Hpays
  isplitl [Hat]
  · iexists S
    isplitr; · ipureintro; exact hS
    isplitl [Hat]; · iexact Hat
    iexact Hpays
  unfold credPay
  icases Hd with ⟨Hd1, Hd2⟩
  rcases Nat.even_or_odd' (d - n) with ⟨j, hj | hj⟩
  · have e : d + 2 = n + 2 + 2 * j := by omega
    rw [e]; iapply (ready_mono (dn r c) r (n + 2) j); iexact Hd2
  · have e : d + 1 = n + 2 + 2 * j := by omega
    rw [e]; iapply (ready_mono (dn r c) r (n + 2) j); iexact Hd1

end Cert.Ring
-- ==== Proof.Ring.lean ====
/- The steps of one ring put together: each takes the ring from one transfer to the next. -/
module

public import proofs.«01_k».proof.Proof.Steps

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots released readerAt writeTok slotInv)

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × CK → ℕ) (Ks : Key → ℕ)

/-! ## Loads and stores -/

section Mem
variable {sp : CoreSpace} {s : Shape} {e : EltTy}

/-- A load of a block held with known contents. -/
theorem wp_ld (c : Dev nD) (M : Memref sig .tc sp s e) (R : Rect s) (hl : M.view.LoadsAt R.toLoadRect) (q : PosShare TreeShare)
    (X : R.shape.Idx → Elt F e) (Q : (R.shape.Idx → Elt F e) → sProp 𝕄) :
    iprop(has m c (M.access R) q X ∗ (has m c (M.access R) q X -∗ Q X)) ⊢ wpc c (Prog.lift (.load M R.toLoadRect hl)) Q := by
  unfold has
  iintro ⟨H, HQ⟩
  iapply (wp_load_rect 𝒱₀ (c : Thread nD τ) none Set.univ (m := M) (r := R) (Finset.Subset.refl _)) $$ [H]
  · iexact H
  iintro H
  rw [wp_ret, View.read_write_univ]; imodintro
  iapply HQ; iexact H

/-- A load whose value is not used. -/
theorem wp_ld_any (c : Dev nD) (M : Memref sig .tc sp s e) (R : Rect s) (hl : M.view.LoadsAt R.toLoadRect)
    (Q : (R.shape.Idx → Elt F e) → sProp 𝕄) :
    iprop(some' c (M.access R) ∗ (∀ X, some' c (M.access R) -∗ Q X)) ⊢ wpc c (Prog.lift (.load M R.toLoadRect hl)) Q := by
  unfold some' Release.slot
  iintro ⟨⟨%f, H⟩, HQ⟩
  iapply (wp_load_rect 𝒱₀ (c : Thread nD τ) none Set.univ (m := M) (r := R) (Finset.Subset.refl _)) $$ [H]
  · iexact H
  iintro H
  rw [wp_ret]; imodintro
  iapply HQ; iexists f; iexact H

/-- A store into a block. -/
theorem wp_st (c : Dev nD) (M : Memref sig .tc sp s e) (R : Rect s) (X : R.shape.Idx → Elt F e)
    (hx : (M.access R).Stores Finset.univ) (hm) (Q : PUnit → sProp 𝕄) :
    iprop(some' c (M.access R) ∗ (has m c (M.access R) fullShare X -∗ Q ⟨⟩)) ⊢ wpc c (Prog.lift (.store M R X Finset.univ hx hm)) Q := by
  unfold some' Release.slot
  iintro ⟨⟨%f, H⟩, HQ⟩
  iapply (wp_store 𝒱₀ (c : Thread nD τ) none Set.univ (m := M) (r := R) (w := X) (Mk := Finset.univ) (by rw [View.setOn_univ])) $$ [H]
  · iexact H
  iintro H
  rw [wp_ret]; imodintro
  iapply HQ; rw [← has_write m c (M.access R) fullShare f X]; iexact H

/-- A load of part of a buffer held whole. -/
theorem wp_ld_part (c : Dev nD) (M : Memref sig .tc sp s e) (R : Rect s) (hl : M.view.LoadsAt R.toLoadRect)
    (f : Buf (Elt F) ((M.access R).loc (c : Thread nD τ))) (Q : (R.shape.Idx → Elt F e) → sProp 𝕄) :
    iprop(((M.access R).loc (c : Thread nD τ) ↦{fullShare} f)
        ∗ (((M.access R).loc (c : Thread nD τ) ↦{fullShare} f) -∗ Q ((M.access R).read (Elt F) f)))
      ⊢ wpc c (Prog.lift (.load M R.toLoadRect hl)) Q := by
  iintro ⟨H, HQ⟩
  iapply (wp_load_rect 𝒱₀ (c : Thread nD τ) none Set.univ (m := M) (r := R) (Finset.subset_univ _)) $$ [H]
  · iexact H
  iintro H
  rw [wp_ret]; imodintro
  iapply HQ; iexact H

end Mem

/-! ## The parts of a ring's state -/

/-- The receiving side, `w` transfers waited for. -/
def recvSide (c : Dev nD) (r : Fin 4) (w : ℕ) : sProp 𝕄 := iprop(bigSep (Finset.Ico w 14) (waitKit c r) ∗ recvPos c r w ∗ recvPos c r (w + 1))
/-- The slots, `v` of the transfers freed. -/
def credSide (c : Dev nD) (r : Fin 4) (v : ℕ) : sProp 𝕄 :=
  iprop(bigSep (Finset.Ico v 12) (credKit c r) ∗ rdAt c r v ∗ rdAt c r (v + 1) ∗ ready c r (v + 1))
/-- The credits, `a` of them waited for. -/
def awaitSide (c : Dev nD) (r : Fin 4) (a : ℕ) : sProp 𝕄 := iprop(bigSep (Finset.Ico a 12) (awaitKit c r) ∗ credSt c r a)
/-- The sending side with transfer `k` on its way, -/
def sent (c : Dev nD) (r : Fin 4) (k : ℕ) : sProp 𝕄 :=
  iprop(cred (tallyAt (sendCell c r) 0 N) ∗ atPos ER (sendCell c r) k ∅ 0 ∗ sendHas m ρ c r fullShare.left k)
/-- and with transfer `k` still to start. -/
def idle (c : Dev nD) (r : Fin 4) (k : ℕ) : sProp 𝕄 := iprop(atPos ER (sendCell c r) k ∅ 0 ∗ reached ER (sendCell c r) k)

/-- Waiting for transfer `k`: the slot's block has arrived and the sent block is back. -/
theorem wp_wait_side (c : Dev nD) (r : Fin 4) (k : ℕ) (hk : k < 14) (O : CellTallies nD τ sig ℕ) (hO : Above (2 + 2 * k) O) (Q : PUnit → sProp 𝕄) :
    iprop(ctx m ρ K Ks ∗ recvSide c r k ∗ sent m ρ c r k ∗ ow c O
        ∗ ((recvSide c r (k + 1) ∗ reached ER (recvCell c r (slot k)) (k / 2 + 1) ∗ recvHas m ρ c r k ∗ idle c r (k + 1)
            ∗ some' c (vSend r) ∗ ow c O) -∗ Q ⟨⟩))
      ⊢ wpc c (waitBoth r k) Q := by
  unfold recvSide sent idle
  rw [bigSep_Ico_peel _ k 14 hk]
  iintro ⟨#Hctx, ⟨⟨Hkit, Hkits⟩, Hp0, Hp1⟩, ⟨Hcs, Hat, Hl⟩, Hown, HQ⟩
  iapply (wp_wait_step m ρ K Ks c r k hk O hO)
  isplitr; · iexact Hctx
  isplitl [Hkit]; · iexact Hkit
  isplitl [Hp0]; · iexact Hp0
  isplitl [Hcs]; · iexact Hcs
  isplitl [Hat]; · iexact Hat
  isplitl [Hl]; · iexact Hl
  isplitl [Hown]; · iexact Hown
  iintro ⟨Hp2, #Hre, Hrecv, Hat, #Hrs, Hs, Hown⟩
  iapply HQ
  isplitl [Hkits Hp1 Hp2]
  · isplitl [Hkits]; · iexact Hkits
    isplitl [Hp1]; · iexact Hp1
    iexact Hp2
  isplitr; · iexact Hre
  isplitl [Hrecv]; · iexact Hrecv
  isplitl [Hat]
  · isplitl [Hat]; · iexact Hat
    iexact Hrs
  isplitl [Hs]
  · unfold sendHas; iapply (has_some m c (vSend r) _); iexact Hs
  iexact Hown

/-- Freeing the slot of transfer `n` and giving its credit, as a step of the ring. -/
theorem wp_credit_side (c : Dev nD) (r : Fin 4) (n : ℕ) (hn : n < 12) (X Y : CellTallies nD τ sig ℕ) (Q : PUnit → sProp 𝕄) :
    iprop(ctx m ρ K Ks ∗ credSide c r n ∗ reached ER (recvCell c r (slot n)) (n / 2 + 1) ∗ some' c (vRecv r (slot n))
        ∗ ow c (X + (Y + credOw c r n)) ∗ ((credSide c r (n + 1) ∗ ow c (X + (Y + credOw c r (n + 1)))) -∗ Q ⟨⟩))
      ⊢ wpc c (credit c r) Q := by
  have hO : X + (Y + credOw c r n) = X + (Y + credOw c r (n + 1)) + tallyAt (credCell (up r c) r) (3 + 2 * n) 1 := by
    rw [credOw_peel c r n hn, ← add_assoc, ← add_assoc, ← add_assoc]
  rw [hO]
  unfold credSide
  rw [bigSep_Ico_peel _ n 12 hn]
  iintro ⟨#Hctx, ⟨⟨Hkit, Hkits⟩, Hr0, Hr1, #Hready⟩, #Hre, Hslot, Hown, HQ⟩
  iapply (wp_credit_step m ρ K Ks c r n hn)
  isplitr; · iexact Hctx
  isplitl [Hkit]; · iexact Hkit
  isplitr; · iexact Hready
  isplitl [Hr0]; · iexact Hr0
  isplitr; · iexact Hre
  isplitl [Hslot]; · iexact Hslot
  isplitl [Hown]; · iexact Hown
  iintro ⟨Hr2, #Hready2, Hown⟩
  iapply HQ
  isplitr [Hown]
  · isplitl [Hkits]; · iexact Hkits
    isplitl [Hr1]; · iexact Hr1
    isplitl [Hr2]; · iexact Hr2
    iexact Hready2
  iexact Hown

/-- The slot of a transfer too late to be freed. -/
def keep (c : Dev nD) (r : Fin 4) (k : ℕ) : sProp 𝕄 := if k ≤ 12 then iprop(emp) else some' c (vRecv r (slot (k - 1)))

/-- While slots are still to be freed nothing is kept, -/
theorem keep_early (c : Dev nD) (r : Fin 4) (k : ℕ) (h : k ≤ 12) : (keep c r k : sProp 𝕄) = iprop(emp) := if_pos h
/-- and the last two slots stay with the device. -/
theorem keep_late (c : Dev nD) (r : Fin 4) (k : ℕ) (h : ¬k ≤ 12) : (keep c r k : sProp 𝕄) = some' c (vRecv r (slot (k - 1))) := if_neg h

/-- Freeing the slot of transfer `k - 1` unless it is too late. -/
theorem wp_credit_if (c : Dev nD) (r : Fin 4) (k : ℕ) (p : Prop) [Decidable p] (hp : p ↔ k ≤ 12) (h1 : 1 ≤ k) (h13 : k ≤ 13) (X Y : CellTallies nD τ sig ℕ)
    (q : Pr F PUnit) (Q : PUnit → sProp 𝕄) :
    iprop(ctx m ρ K Ks ∗ credSide c r (min (k - 1) 12) ∗ reached ER (recvCell c r (slot (k - 1))) ((k - 1) / 2 + 1) ∗ some' c (vRecv r (slot (k - 1)))
        ∗ ow c (X + (Y + credOw c r (k - 1))) ∗ ((credSide c r (min k 12) ∗ keep c r k ∗ ow c (X + (Y + credOw c r k))) -∗ wpc c q Q))
      ⊢ wpc c (if p then credit c r >>= fun _ => q else q) Q := by
  by_cases h : k ≤ 12
  · rw [if_pos (hp.mpr h), keep_early c r k h, show min (k - 1) 12 = k - 1 by omega, show min k 12 = k - 1 + 1 by omega]
    simp only [wpc, wp_bind]
    iintro ⟨#Hctx, Hcr, #Hre, Hslot, Hown, HQ⟩
    iapply (wp_credit_side m ρ K Ks c r (k - 1) (by omega) X Y)
    isplitr; · iexact Hctx
    isplitl [Hcr]; · iexact Hcr
    isplitr; · iexact Hre
    isplitl [Hslot]; · iexact Hslot
    isplitl [Hown]; · iexact Hown
    iintro ⟨Hcr, Hown⟩
    iapply HQ
    isplitl [Hcr]; · iexact Hcr
    isplitr; · itrivial
    rw [show k - 1 + 1 = k by omega]; iexact Hown
  · rw [if_neg (fun h' => h (hp.mp h')), keep_late c r k h, show min (k - 1) 12 = 12 by omega, show min k 12 = 12 by omega,
      credOw_done c r (k - 1) (by omega), credOw_done c r k (by omega)]
    iintro ⟨#Hctx, Hcr, #Hre, Hslot, Hown, HQ⟩
    iapply HQ
    isplitl [Hcr]; · iexact Hcr
    isplitl [Hslot]; · iexact Hslot
    iexact Hown

/-- Waiting for one more credit: the receiver's slot is ready for transfer `a + 2`. -/
theorem wp_await_side (c : Dev nD) (r : Fin 4) (a : ℕ) (ha : a < 12) (O : CellTallies nD τ sig ℕ) (hO : Above (3 + 2 * a) O) (Q : PUnit → sProp 𝕄) :
    iprop(ctx m ρ K Ks ∗ awaitSide c r a ∗ ow c O ∗ ((awaitSide c r (a + 1) ∗ ready (dn r c) r (a + 2) ∗ ow c O) -∗ Q ⟨⟩))
      ⊢ wpc c (await r) Q := by
  unfold awaitSide
  rw [bigSep_Ico_peel _ a 12 ha]
  iintro ⟨#Hctx, ⟨⟨Hkit, Hkits⟩, Hst⟩, Hown, HQ⟩
  iapply (wp_await_step m ρ K Ks c r a ha O hO)
  isplitr; · iexact Hctx
  isplitl [Hkit]; · iexact Hkit
  isplitl [Hst]; · iexact Hst
  isplitl [Hown]; · iexact Hown
  iintro ⟨Hst, Hown⟩
  ihave Hst := (credSt_ready c r a ha) $$ Hst
  icases Hst with ⟨Hst, #Hready⟩
  iapply HQ
  isplitl [Hkits Hst]
  · isplitl [Hkits]; · iexact Hkits
    iexact Hst
  isplitr; · iexact Hready
  iexact Hown

/-- Waiting for the slot of transfer `k` to be free: transfer 1 needs no credit. -/
theorem wp_await_if (c : Dev nD) (r : Fin 4) (k : ℕ) (h1 : 1 ≤ k) (h13 : k ≤ 13) (O : CellTallies nD τ sig ℕ) (hO : Above (2 * k) O)
    (q : Pr F PUnit) (Q : PUnit → sProp 𝕄) :
    iprop(ctx m ρ K Ks ∗ awaitSide c r (k - 2) ∗ ready (dn r c) r 1 ∗ ow c O ∗ ((awaitSide c r (k - 1) ∗ ready (dn r c) r k ∗ ow c O) -∗ wpc c q Q))
      ⊢ wpc c (if 2 ≤ k then await r >>= fun _ => q else q) Q := by
  by_cases h : 2 ≤ k
  · rw [if_pos h]
    simp only [wpc, wp_bind]
    iintro ⟨#Hctx, Ha, -, Hown, HQ⟩
    iapply (wp_await_side m ρ K Ks c r (k - 2) (by omega) O (hO.mono (by omega)))
    isplitr; · iexact Hctx
    isplitl [Ha]; · iexact Ha
    isplitl [Hown]; · iexact Hown
    rw [show k - 2 + 1 = k - 1 by omega, show k - 2 + 2 = k by omega]
    iexact HQ
  · rw [if_neg h]
    obtain rfl : k = 1 := by omega
    iintro ⟨#Hctx, Ha, #Hr, Hown, HQ⟩
    iapply HQ
    isplitl [Ha]; · iexact Ha
    isplitr; · iexact Hr
    iexact Hown

/-- Starting transfer `k`, as a step of the ring. -/
theorem wp_send_side (c : Dev nD) (r : Fin 4) (k : ℕ) (hk : k < 14) (X Y : CellTallies nD τ sig ℕ) (Q : PUnit → sProp 𝕄) :
    iprop(ctx m ρ K Ks ∗ bigSep (Finset.Ico k 14) (sendKit c r) ∗ ready (dn r c) r k ∗ idle c r k ∗ sendHas m ρ c r fullShare k
        ∗ ow c (X + (sendOw c r k + Y))
        ∗ ((bigSep (Finset.Ico (k + 1) 14) (sendKit c r) ∗ sent m ρ c r k ∗ ow c (X + (sendOw c r (k + 1) + Y))) -∗ Q ⟨⟩))
      ⊢ wpc c (send c r k) Q := by
  have hO : X + (sendOw c r k + Y) = X + (sendOw c r (k + 1) + Y) + tallyAt (recvCell (dn r c) r (slot k)) (2 + 2 * k) N := by
    rw [sendOw_peel c r k hk, add_assoc, add_assoc X, add_assoc, add_comm Y]
  rw [hO, bigSep_Ico_peel _ k 14 hk]
  unfold idle sent
  iintro ⟨#Hctx, ⟨Hkit, Hkits⟩, #Hready, ⟨Hat, #Hre⟩, Hs, Hown, HQ⟩
  iapply (wp_send_step m ρ K Ks c r k hk)
  isplitr; · iexact Hctx
  isplitl [Hkit]; · iexact Hkit
  isplitr; · iexact Hready
  isplitr; · iexact Hre
  isplitl [Hs]; · iexact Hs
  isplitl [Hown]; · iexact Hown
  iintro ⟨Hc, Hl, Hown⟩
  iapply HQ
  isplitl [Hkits]; · iexact Hkits
  isplitr [Hown]
  · isplitl [Hc]; · iexact Hc
    isplitl [Hat]; · iexact Hat
    iexact Hl
  iexact Hown

/-! ## The steps of a ring -/

/-- A device's widened operands. -/
def opnds (c : Dev nD) : sProp 𝕄 :=
  iprop((bXb.view.loc (c : Thread nD τ) ↦{fullShare} xbC m ρ c) ∗ (bWb.view.loc (c : Thread nD τ) ↦{fullShare} wbC m ρ c))

/-- A part `p` of the program takes `P` to `R` and what is owed from `A` to `B`, whatever else is owed above level `n`. -/
def Step (c : Dev nD) (n : ℕ) (P : sProp 𝕄) (p : Pr F PUnit) (R : sProp 𝕄) (A B : CellTallies nD τ sig ℕ) : Prop :=
  ∀ (X : CellTallies nD τ sig ℕ) (Q : PUnit → sProp 𝕄), Above n X →
    iprop(ctx m ρ K Ks ∗ opnds m ρ c ∗ P ∗ ow c (X + A) ∗ ((opnds m ρ c ∗ R ∗ ow c (X + B)) -∗ Q ⟨⟩)) ⊢ wpc c p Q

/-- A ring before transfer `k`, `1 ≤ k`. -/
def ringSt (c : Dev nD) (r : Fin 4) (k : ℕ) : sProp 𝕄 :=
  iprop(recvSide c r (k - 1) ∗ credSide c r (min (k - 1) 12) ∗ awaitSide c r (k - 2) ∗ bigSep (Finset.Ico k 14) (sendKit c r)
    ∗ ready (dn r c) r 1 ∗ sent m ρ c r (k - 1) ∗ keep c r (k - 1))
/-- A ring before its first transfer: the block to send empty, -/
def ring0 (c : Dev nD) (r : Fin 4) (S : sProp 𝕄) : sProp 𝕄 :=
  iprop(recvSide c r 0 ∗ credSide c r 0 ∗ awaitSide c r 0 ∗ bigSep (Finset.Ico 0 14) (sendKit c r)
    ∗ ready (dn r c) r 0 ∗ ready (dn r c) r 1 ∗ idle c r 0 ∗ S)
/-- A ring after its last transfer. -/
def ringEnd (c : Dev nD) (r : Fin 4) : sProp 𝕄 :=
  iprop(recvSide c r 14 ∗ credSide c r 12 ∗ awaitSide c r 12 ∗ idle c r 14 ∗ some' c (vSend r) ∗ some' c (vRecv r 0) ∗ some' c (vRecv r 1))

/-- The blocks of the result: the first `j` stored. -/
def outsSt (c : Dev nD) (r : Fin 4) (j : ℕ) : sProp 𝕄 :=
  bigSep Finset.univ (fun n : Fin 8 => if n.val < j then has m c (vOut r c n) fullShare (outv m ρ c r n.val) else some' c (vOut r c n))

/-- The `n`-th block of the result is taken out to be stored and put back stored. -/
theorem outs_step (c : Dev nD) (r : Fin 4) (n : Fin 8) :
    outsSt m ρ c r n.val ⊢ iprop(some' c (vOut r c n) ∗ (has m c (vOut r c n) fullShare (outv m ρ c r n.val) -∗ outsSt m ρ c r (n.val + 1))) := by
  have e : ∀ Φ : Fin 8 → sProp 𝕄, bigSep Finset.univ Φ = iprop(Φ n ∗ bigSep (Finset.univ.erase n) Φ) := fun Φ => bigSep_erase (Finset.mem_univ n)
  unfold outsSt
  rw [e, e, if_neg (Nat.lt_irrefl _), if_pos (Nat.lt_succ_self _),
    BI.bigSep_congr (s := Finset.univ.erase n) (Ψ := fun i : Fin 8 => if i.val < n.val + 1 then has m c (vOut r c i) fullShare (outv m ρ c r i.val) else some' c (vOut r c i))
      fun i hi => by
        have hne : i.val ≠ n.val := fun h => (Finset.mem_erase.mp hi).1 (Fin.ext h)
        by_cases h : i.val < n.val
        · rw [if_pos h, if_pos (by omega)]
        · rw [if_neg h, if_neg (by omega)]]
  iintro ⟨H, Hr⟩
  isplitl [H]; · iexact H
  iintro H
  isplitl [H]; · iexact H
  iexact Hr

/-- The first product. -/
theorem step_first (c : Dev nD) (r : Fin 4) (G : sProp 𝕄) (A : CellTallies nD τ sig ℕ) (n : ℕ) :
    Step m ρ K Ks c n iprop(ring0 c r (some' c (vSend r)) ∗ G) (first c r) iprop(ring0 c r (sendHas m ρ c r fullShare 0) ∗ G) A A := by
  intro X Q hX
  unfold opnds first ldXb ldWb ldSend stSend ring0
  simp only [wpc, wp_bind]
  iintro ⟨#Hctx, ⟨Hx, Hw⟩, ⟨⟨H1, H2, H3, H4, H5, H6, H7, Hs⟩, HG⟩, Hown, HQ⟩
  iapply (wp_ld_part c bXb (rXb c (xix r 0)) _ (xbC m ρ c))
  isplitl [Hx]; · iexact Hx
  iintro Hx
  iapply (wp_ld_part c bWb (rWb r) _ (wbC m ρ c))
  isplitl [Hw]; · iexact Hw
  iintro Hw
  iapply (wp_ld_any c bSend (rSend r) _)
  isplitl [Hs]; · iexact Hs
  iintro %_ Hs
  iapply (wp_st m c bSend (rSend r))
  isplitl [Hs]; · iexact Hs
  iintro Hs
  iapply HQ
  isplitl [Hx Hw]
  · isplitl [Hx]; · iexact Hx
    iexact Hw
  isplitr [Hown]
  · isplitr [HG]
    · isplitl [H1]; · iexact H1
      isplitl [H2]; · iexact H2
      isplitl [H3]; · iexact H3
      isplitl [H4]; · iexact H4
      isplitl [H5]; · iexact H5
      isplitl [H6]; · iexact H6
      isplitl [H7]; · iexact H7
      unfold sendHas; rw [mS]; iexact Hs
    iexact HG
  iexact Hown

/-- A later product. -/
theorem step_prod (c : Dev nD) (r : Fin 4) (i : Fin 9) (G H : sProp 𝕄) (A : CellTallies nD τ sig ℕ) (n : ℕ) :
    Step m ρ K Ks c n iprop(G ∗ some' c (vPc r) ∗ H) (prod c r i) iprop(G ∗ has m c (vPc r) fullShare (pcv m ρ c r i) ∗ H) A A := by
  intro X Q hX
  unfold opnds prod ldXb ldWb ldPc stPc
  simp only [wpc, wp_bind]
  iintro ⟨#Hctx, ⟨Hx, Hw⟩, ⟨HG, Hs, HH⟩, Hown, HQ⟩
  iapply (wp_ld_part c bXb (rXb c i) _ (xbC m ρ c))
  isplitl [Hx]; · iexact Hx
  iintro Hx
  iapply (wp_ld_part c bWb (rWb r) _ (wbC m ρ c))
  isplitl [Hw]; · iexact Hw
  iintro Hw
  iapply (wp_ld_any c bPc (rSend r) _)
  isplitl [Hs]; · iexact Hs
  iintro %_ Hs
  iapply (wp_st m c bPc (rSend r))
  isplitl [Hs]; · iexact Hs
  iintro Hs
  iapply HQ
  isplitl [Hx Hw]
  · isplitl [Hx]; · iexact Hx
    iexact Hw
  isplitr [Hown]
  · isplitl [HG]; · iexact HG
    isplitl [Hs]; · iexact Hs
    iexact HH
  iexact Hown

/-- The first transfer. -/
theorem step_send0 (c : Dev nD) (r : Fin 4) (G : sProp 𝕄) (n : ℕ) :
    Step m ρ K Ks c n iprop(ring0 c r (sendHas m ρ c r fullShare 0) ∗ G) (send c r 0) iprop(ringSt m ρ c r 1 ∗ G) (ringOw c r 0) (ringOw c r 1) := by
  intro X Q hX
  unfold ring0 ringSt ringOw
  simp only [Nat.sub_self, Nat.zero_sub, Nat.zero_min, Nat.reduceSub]
  rw [keep_early c r 0 (by decide)]
  iintro ⟨#Hctx, Hop, ⟨⟨H1, H2, H3, H4, #H5, H6, H7, Hs⟩, HG⟩, Hown, HQ⟩
  iapply (wp_send_side m ρ K Ks c r 0 (by decide) X (credOw c r 0))
  isplitr; · iexact Hctx
  isplitl [H4]; · iexact H4
  isplitr; · iexact H5
  isplitl [H7]; · iexact H7
  isplitl [Hs]; · iexact Hs
  isplitl [Hown]; · iexact Hown
  iintro ⟨H4, Hsent, Hown⟩
  iapply HQ
  isplitl [Hop]; · iexact Hop
  isplitr [Hown]
  · isplitr [HG]
    · isplitl [H1]; · iexact H1
      isplitl [H2]; · iexact H2
      isplitl [H3]; · iexact H3
      isplitl [H4]; · iexact H4
      isplitl [H6]; · iexact H6
      isplitl [Hsent]; · iexact Hsent
      itrivial
    iexact HG
  iexact Hown

/-- What reduction step `k` sends: what was received, with the product added. -/
theorem mS_reduce (c : Dev nD) (r : Fin 4) (k : ℕ) (h1 : 1 ≤ k) (h6 : k ≤ 6) :
    mS m ρ k c r = k0_pay14 (toRecv (mS m ρ (k - 1) (up r c) r)) (pcv m ρ c r (xix r k)) := by
  obtain ⟨k, rfl⟩ : ∃ j, k = j + 1 := ⟨k - 1, by omega⟩
  rw [mS, if_pos (by omega)]; rfl
/-- What the step that ends the reduction sends. -/
theorem mS_fin (c : Dev nD) (r : Fin 4) : mS m ρ 7 c r = k0_pay67 (toRecv (mS m ρ 6 (up r c) r)) (pcv m ρ c r (xfin r)) := by
  rw [mS, if_neg (by decide), if_pos rfl]
/-- What a distribution step sends: what was received. -/
theorem mS_spread (c : Dev nD) (r : Fin 4) (k : ℕ) (h : 8 ≤ k) : mS m ρ k c r = k0_pay81 (toRecv (mS m ρ (k - 1) (up r c) r)) := by
  obtain ⟨k, rfl⟩ : ∃ j, k = j + 1 := ⟨k - 1, by omega⟩
  rw [mS, if_neg (by omega), if_neg (by omega)]; rfl

/-- What the ring owes before transfer `k` is above the level of the wait for transfer `k - 1`. -/
theorem ringOw_level (c : Dev nD) (r : Fin 4) (k j : ℕ) (h1 : 1 ≤ k) (hj : k ≤ j) : Above (2 * k) (ringOw c r j) :=
  ringOw_above c r j _ (by omega) (by omega)

/-- A reduction step. -/
theorem step_reduce (c : Dev nD) (r : Fin 4) (k : ℕ) (h1 : 1 ≤ k) (h6 : k ≤ 6) (G : sProp 𝕄) :
    Step m ρ K Ks c (2 * k) iprop(ringSt m ρ c r k ∗ has m c (vPc r) fullShare (pcv m ρ c r (xix r k)) ∗ G) (reduceStep c r k)
      iprop(ringSt m ρ c r (k + 1) ∗ some' c (vPc r) ∗ G) (ringOw c r k) (ringOw c r (k + 1)) := by
  intro X Q hX
  unfold reduceStep ldRecv ldPc ldSend stSend ringSt ringOw
  simp only [wpc, wp_bind]
  rw [keep_early c r (k - 1) (by omega), show k + 1 - 1 = k by omega, show k + 1 - 2 = k - 1 by omega, keep_early c r k (by omega),
    show min (k - 1) 12 = k - 1 by omega, show min k 12 = k by omega]
  iintro ⟨#Hctx, Hop, ⟨⟨H1, H2, H3, H4, #H5, Hsent, -⟩, Hpc, HG⟩, Hown, HQ⟩
  iapply (wp_wait_side m ρ K Ks c r (k - 1) (by omega) _ ((hX.mono (by omega)).add ((ringOw_level c r k k h1 (le_refl k)).mono (by omega))))
  isplitr; · iexact Hctx
  isplitl [H1]; · iexact H1
  isplitl [Hsent]; · iexact Hsent
  isplitl [Hown]; · iexact Hown
  iintro ⟨H1, #Hre, Hrecv, Hidle, Hs, Hown⟩
  unfold recvHas
  iapply (wp_ld m c bRecv (rRecv r (slot (k - 1))))
  isplitl [Hrecv]; · iexact Hrecv
  iintro Hrecv
  iapply (wp_ld m c bPc (rSend r))
  isplitl [Hpc]; · iexact Hpc
  iintro Hpc
  iapply (wp_ld_any c bSend (rSend r) _)
  isplitl [Hs]; · iexact Hs
  iintro %_ Hs
  iapply (wp_st m c bSend (rSend r))
  isplitl [Hs]; · iexact Hs
  iintro Hs
  iapply (wp_credit_side m ρ K Ks c r (k - 1) (by omega) X (sendOw c r k))
  isplitr; · iexact Hctx
  isplitl [H2]; · iexact H2
  isplitr; · iexact Hre
  isplitl [Hrecv]; · iapply (has_some m c (vRecv r (slot (k - 1))) _); iexact Hrecv
  isplitl [Hown]; · iexact Hown
  rw [show k - 1 + 1 = k by omega]
  iintro ⟨H2, Hown⟩
  iapply (wp_await_if m ρ K Ks c r k h1 (by omega) _ (hX.add ((sendOw_above c r k _ (by omega)).add (credOw_above c r k _ (by omega)))))
  isplitr; · iexact Hctx
  isplitl [H3]; · iexact H3
  isplitr; · iexact H5
  isplitl [Hown]; · iexact Hown
  iintro ⟨H3, #Hready, Hown⟩
  iapply (wp_send_side m ρ K Ks c r k (by omega) X (credOw c r k))
  isplitr; · iexact Hctx
  isplitl [H4]; · iexact H4
  isplitr; · iexact Hready
  isplitl [Hidle]; · iexact Hidle
  isplitl [Hs]; · unfold sendHas; rw [mS_reduce m ρ c r k h1 h6]; iexact Hs
  isplitl [Hown]; · iexact Hown
  iintro ⟨H4, Hsent, Hown⟩
  iapply HQ
  isplitl [Hop]; · iexact Hop
  isplitr [Hown]
  · isplitr [Hpc HG]
    · isplitl [H1]; · iexact H1
      isplitl [H2]; · iexact H2
      isplitl [H3]; · iexact H3
      isplitl [H4]; · iexact H4
      isplitr; · iexact H5
      isplitl [Hsent]; · iexact Hsent
      itrivial
    isplitl [Hpc]; · iapply (has_some m c (vPc r) _); iexact Hpc
    iexact HG
  iexact Hown

/-- The last reduction step. -/
theorem step_fin (c : Dev nD) (r : Fin 4) :
    Step m ρ K Ks c 14 iprop(ringSt m ρ c r 7 ∗ has m c (vPc r) fullShare (pcv m ρ c r (xfin r)) ∗ outsSt m ρ c r 0) (finStep c (scale m ρ c) r)
      iprop(ringSt m ρ c r 8 ∗ some' c (vPc r) ∗ outsSt m ρ c r 1) (ringOw c r 7) (ringOw c r 8) := by
  intro X Q hX
  unfold finStep ldRecv ldPc ldSend stSend ldOut stOut ringSt ringOw
  simp only [wpc, wp_bind]
  rw [keep_early c r (7 - 1) (by decide), keep_early c r (8 - 1) (by decide)]
  iintro ⟨#Hctx, Hop, ⟨⟨H1, H2, H3, H4, #H5, Hsent, -⟩, Hpc, Hout⟩, Hown, HQ⟩
  ihave Hout := (show outsSt m ρ c r 0 ⊢ _ from outs_step m ρ c r 0) $$ Hout
  icases Hout with ⟨Ho, Hout⟩
  iapply (wp_wait_side m ρ K Ks c r 6 (by decide) _ (hX.add (ringOw_level c r 7 7 (by decide) (le_refl _))))
  isplitr; · iexact Hctx
  isplitl [H1]; · iexact H1
  isplitl [Hsent]; · iexact Hsent
  isplitl [Hown]; · iexact Hown
  iintro ⟨H1, #Hre, Hrecv, Hidle, Hs, Hown⟩
  unfold recvHas
  iapply (wp_ld m c bRecv (rRecv r (slot 6)))
  isplitl [Hrecv]; · iexact Hrecv
  iintro Hrecv
  iapply (wp_ld m c bPc (rSend r))
  isplitl [Hpc]; · iexact Hpc
  iintro Hpc
  iapply (wp_credit_side m ρ K Ks c r 6 (by decide) X (sendOw c r 7))
  isplitr; · iexact Hctx
  isplitl [H2]; · iexact H2
  isplitr; · iexact Hre
  isplitl [Hrecv]; · iapply (has_some m c (vRecv r (slot 6)) _); iexact Hrecv
  isplitl [Hown]; · iexact Hown
  iintro ⟨H2, Hown⟩
  iapply (wp_ld_any c bSend (rSend r) _)
  isplitl [Hs]; · iexact Hs
  iintro %_ Hs
  iapply (wp_st m c bSend (rSend r))
  isplitl [Hs]; · iexact Hs
  iintro Hs
  iapply (wp_await_side m ρ K Ks c r 5 (by decide) _ ((hX.mono (by decide)).add ((sendOw_above c r 7 _ (by decide)).add (credOw_above c r 7 _ (by decide)))))
  isplitr; · iexact Hctx
  isplitl [H3]; · iexact H3
  isplitl [Hown]; · iexact Hown
  iintro ⟨H3, #Hready, Hown⟩
  iapply (wp_send_side m ρ K Ks c r 7 (by decide) X (credOw c r 7))
  isplitr; · iexact Hctx
  isplitl [H4]; · iexact H4
  isplitr; · iexact Hready
  isplitl [Hidle]; · iexact Hidle
  isplitl [Hs]; · unfold sendHas; rw [mS_fin m ρ c r]; iexact Hs
  isplitl [Hown]; · iexact Hown
  iintro ⟨H4, Hsent, Hown⟩
  iapply (wp_ld_any c bOut (rOut r c 0) _)
  isplitl [Ho]; · iexact Ho
  iintro %_ Ho
  iapply (wp_st m c bOut (rOut r c 0))
  isplitl [Ho]; · iexact Ho
  iintro Ho
  iapply HQ
  isplitl [Hop]; · iexact Hop
  isplitr [Hown]
  · isplitr [Hpc Hout Ho]
    · isplitl [H1]; · iexact H1
      isplitl [H2]; · iexact H2
      isplitl [H3]; · iexact H3
      isplitl [H4]; · iexact H4
      isplitr; · iexact H5
      isplitl [Hsent]; · iexact Hsent
      itrivial
    isplitl [Hpc]; · iapply (has_some m c (vPc r) _); iexact Hpc
    iapply Hout; iexact Ho
  iexact Hown

/-- What a distribution step stores. -/
theorem outv_spread (c : Dev nD) (r : Fin 4) (n : Fin 8) (h1 : 1 ≤ n.val) (h6 : n.val ≤ 6) :
    outv m ρ c r n.val = k0_pay82 (scale m ρ c) (mS m ρ (n.val + 7) c r) := by
  unfold outv; rw [if_neg (by omega), if_neg (by omega)]

/-- A distribution step. -/
theorem step_spread (c : Dev nD) (r : Fin 4) (n : Fin 8) (h1 : 1 ≤ n.val) (h6 : n.val ≤ 6) (G : sProp 𝕄) :
    Step m ρ K Ks c (2 * (n.val + 7)) iprop(ringSt m ρ c r (n.val + 7) ∗ G ∗ outsSt m ρ c r n.val) (spreadStep c (scale m ρ c) r n)
      iprop(ringSt m ρ c r (n.val + 7 + 1) ∗ G ∗ outsSt m ρ c r (n.val + 1)) (ringOw c r (n.val + 7)) (ringOw c r (n.val + 7 + 1)) := by
  intro X Q hX
  unfold spreadStep ldRecv ldSend stSend ldOut stOut
  simp only [wpc, wp_bind]
  generalize hk : n.val + 7 = k at hX ⊢
  rw [show n.val + 6 = k - 1 by omega]
  unfold ringSt ringOw
  rw [keep_early c r (k - 1) (by omega), show k + 1 - 1 = k by omega, show k + 1 - 2 = k - 1 by omega]
  iintro ⟨#Hctx, Hop, ⟨⟨H1, H2, H3, H4, #H5, Hsent, -⟩, HG, Hout⟩, Hown, HQ⟩
  ihave Hout := (outs_step m ρ c r n) $$ Hout
  icases Hout with ⟨Ho, Hout⟩
  iapply (wp_wait_side m ρ K Ks c r (k - 1) (by omega) _ ((hX.mono (by omega)).add ((ringOw_level c r k k (by omega) (le_refl k)).mono (by omega))))
  isplitr; · iexact Hctx
  isplitl [H1]; · iexact H1
  isplitl [Hsent]; · iexact Hsent
  isplitl [Hown]; · iexact Hown
  rw [show k - 1 + 1 = k by omega]
  iintro ⟨H1, #Hre, Hrecv, Hidle, Hs, Hown⟩
  unfold recvHas
  iapply (wp_ld m c bRecv (rRecv r (slot (k - 1))))
  isplitl [Hrecv]; · iexact Hrecv
  iintro Hrecv
  iapply (wp_ld_any c bSend (rSend r) _)
  isplitl [Hs]; · iexact Hs
  iintro %_ Hs
  iapply (wp_st m c bSend (rSend r))
  isplitl [Hs]; · iexact Hs
  iintro Hs
  iapply (wp_credit_if m ρ K Ks c r k (n.val ≤ 5) (by omega) (by omega) (by omega) X (sendOw c r k))
  isplitr; · iexact Hctx
  isplitl [H2]; · iexact H2
  isplitr; · iexact Hre
  isplitl [Hrecv]; · iapply (has_some m c (vRecv r (slot (k - 1))) _); iexact Hrecv
  isplitl [Hown]; · iexact Hown
  simp only [wpc, wp_bind]
  iintro ⟨H2, Hkeep, Hown⟩
  iapply (wp_await_side m ρ K Ks c r (k - 2) (by omega) _ ((hX.mono (by omega)).add ((sendOw_above c r k _ (by omega)).add (credOw_above c r k _ (by omega)))))
  isplitr; · iexact Hctx
  isplitl [H3]; · iexact H3
  isplitl [Hown]; · iexact Hown
  rw [show k - 2 + 1 = k - 1 by omega, show k - 2 + 2 = k by omega]
  iintro ⟨H3, #Hready, Hown⟩
  iapply (wp_send_side m ρ K Ks c r k (by omega) X (credOw c r k))
  isplitr; · iexact Hctx
  isplitl [H4]; · iexact H4
  isplitr; · iexact Hready
  isplitl [Hidle]; · iexact Hidle
  isplitl [Hs]; · unfold sendHas; rw [mS_spread m ρ c r k (by omega)]; iexact Hs
  isplitl [Hown]; · iexact Hown
  iintro ⟨H4, Hsent, Hown⟩
  unfold sent sendHas
  icases Hsent with ⟨Hcs, Hat, Hl⟩
  iapply (wp_ld m c bSend (rSend r))
  isplitl [Hl]; · iexact Hl
  iintro Hl
  iapply (wp_ld_any c bOut (rOut r c n) _)
  isplitl [Ho]; · iexact Ho
  iintro %_ Ho
  iapply (wp_st m c bOut (rOut r c n))
  isplitl [Ho]; · iexact Ho
  iintro Ho
  iapply HQ
  isplitl [Hop]; · iexact Hop
  isplitr [Hown]
  · isplitr [HG Hout Ho]
    · isplitl [H1]; · iexact H1
      isplitl [H2]; · iexact H2
      isplitl [H3]; · iexact H3
      isplitl [H4]; · iexact H4
      isplitr; · iexact H5
      isplitr [Hkeep]
      · isplitl [Hcs]; · iexact Hcs
        isplitl [Hat]; · iexact Hat
        iexact Hl
      iexact Hkeep
    isplitl [HG]; · iexact HG
    iapply Hout; rw [outv_spread m ρ c r n h1 h6, hk]; iexact Ho
  iexact Hown

/-- The last distribution step. -/
theorem step_tail (c : Dev nD) (r : Fin 4) (G : sProp 𝕄) (A : CellTallies nD τ sig ℕ) (hA : Above 28 A) :
    Step m ρ K Ks c 28 iprop(ringSt m ρ c r 14 ∗ G ∗ outsSt m ρ c r 7) (tailStep c (scale m ρ c) r)
      iprop(ringEnd c r ∗ G ∗ outsSt m ρ c r 8) A A := by
  intro X Q hX
  unfold tailStep ldRecv ldOut stOut ringSt ringEnd
  simp only [wpc, wp_bind]
  rw [keep_late c r (14 - 1) (by decide)]
  iintro ⟨#Hctx, Hop, ⟨⟨H1, H2, H3, H4, #H5, Hsent, Hk⟩, HG, Hout⟩, Hown, HQ⟩
  ihave Hout := (show outsSt m ρ c r 7 ⊢ _ from outs_step m ρ c r 7) $$ Hout
  icases Hout with ⟨Ho, Hout⟩
  iapply (wp_wait_side m ρ K Ks c r 13 (by decide) _ (hX.add hA))
  isplitr; · iexact Hctx
  isplitl [H1]; · iexact H1
  isplitl [Hsent]; · iexact Hsent
  isplitl [Hown]; · iexact Hown
  iintro ⟨H1, #Hre, Hrecv, Hidle, Hs, Hown⟩
  unfold recvHas
  iapply (wp_ld m c bRecv (rRecv r (slot 13)))
  isplitl [Hrecv]; · iexact Hrecv
  iintro Hrecv
  iapply (wp_ld_any c bOut (rOut r c 7) _)
  isplitl [Ho]; · iexact Ho
  iintro %_ Ho
  iapply (wp_st m c bOut (rOut r c 7))
  isplitl [Ho]; · iexact Ho
  iintro Ho
  iapply HQ
  isplitl [Hop]; · iexact Hop
  isplitr [Hown]
  · isplitr [HG Hout Ho]
    · isplitl [H1]; · iexact H1
      isplitl [H2]; · iexact H2
      isplitl [H3]; · iexact H3
      isplitl [Hidle]; · iexact Hidle
      isplitl [Hs]; · iexact Hs
      isplitl [Hk]; · iexact Hk
      iapply (has_some m c (vRecv r (slot 13)) _); iexact Hrecv
    isplitl [HG]; · iexact HG
    iapply Hout; iexact Ho
  iexact Hown

end Cert.Ring
-- ==== Proof.Blocks.lean ====
/- The buffers cut into the blocks the rings work on. -/
module

public import proofs.«01_k».proof.Proof.Ring
public import Idealize.ShloMosaic.Lib.Ring

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (m : (ℓ : Loc nD τ sig) → Buf (Elt F) ℓ) (ρ : Dev nD → PrngReg)

/-- A family over the four rings, ring by ring. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ
/-- A family over two slots. -/
theorem two (Φ : Fin 2 → sProp 𝕄) : bigSep Finset.univ Φ = iprop(Φ 0 ∗ Φ 1) :=
  bigSep_univ_eq_bigSepL [0, 1] (by decide) (by decide) Φ

/-- A family made weaker member by member. -/
theorem fam_mono {T : Type} [Fintype T] {Φ Ψ : T → sProp 𝕄} (h : ∀ t, Φ t ⊢ Ψ t) : bigSep Finset.univ Φ ⊢ bigSep Finset.univ Ψ :=
  bigSep_mono fun t _ => h t

section Cut
variable {b : Ref sig .tc} {T : Type} [Fintype T] [DecidableEq T] (R : T → Rect b.ty.shape) (blk : b.ty.shape.Idx → T)
  (h : ∀ t i, i ∈ (R t).set ↔ blk i = t)

include h in
theorem rects_disjoint (t t' : T) (hne : t ≠ t') :
    Disjoint (α := Finset b.ty.shape.Idx) ((Memref.whole b).access (R t)).set ((Memref.whole b).access (R t')).set := by
  refine Finset.disjoint_left.mpr fun i hi hi' => hne ?_
  have e1 : i ∈ (R t).set := by have := hi; rwa [View.set_slice_whole] at this
  have e2 : i ∈ (R t').set := by have := hi'; rwa [View.set_slice_whole] at this
  rw [← (h t i).mp e1, (h t' i).mp e2]
include h in
theorem rects_cover : (Finset.univ : Finset T).biUnion (β := b.ty.shape.Idx) (fun t => ((Memref.whole b).access (R t)).set) = Finset.univ := by
  refine Finset.eq_univ_iff_forall.mpr fun i => Finset.mem_biUnion.mpr ⟨blk i, Finset.mem_univ _, ?_⟩
  rw [View.set_slice_whole]; exact (h (blk i) i).mpr rfl

include h in
/-- A buffer held whole, cut into blocks; -/
theorem cut (c : Dev nD) (f : Buf (Elt F) ((c : Thread nD τ).loc b)) :
    ((c : Thread nD τ).loc b ↦{fullShare} f : sProp 𝕄)
      = bigSep Finset.univ fun t => (c : Thread nD τ).loc b ↦[((Memref.whole b).access (R t)).set]{fullShare} f :=
  Ring.pointsTo_blocks (ℓ := (c : Thread nD τ).loc b) (fun t => ((Memref.whole b).access (R t)).set) (rects_disjoint R blk h) (rects_cover R blk h) f
include h in
theorem cut_some (c : Dev nD) :
    (iprop(∃ f : Buf (Elt F) ((c : Thread nD τ).loc b), (c : Thread nD τ).loc b ↦{fullShare} f) : sProp 𝕄)
      ⊢ bigSep Finset.univ fun t => some' c ((Memref.whole b).access (R t)) := by
  have e (f : Buf (Elt F) ((c : Thread nD τ).loc b)) : ((c : Thread nD τ).loc b ↦{fullShare} f : sProp 𝕄)
      ⊢ bigSep Finset.univ fun t => some' c ((Memref.whole b).access (R t)) := by
    rw [cut R blk h c f]
    exact fam_mono fun t => by
      unfold some' Release.slot
      iintro H; iexists f; iexact H
  iintro ⟨%f, H⟩
  iapply (e f); iexact H
include h in
/-- the blocks put together again, contents unknown, -/
theorem join_some (c : Dev nD) (f₀ : Buf (Elt F) ((c : Thread nD τ).loc b)) :
    (bigSep Finset.univ fun t => some' c ((Memref.whole b).access (R t)))
      ⊢ (iprop(∃ f : Buf (Elt F) ((c : Thread nD τ).loc b), (c : Thread nD τ).loc b ↦{fullShare} f) : sProp 𝕄) :=
  Ring.pointsTo_blocks_join_exists (ℓ := (c : Thread nD τ).loc b) (fun t => ((Memref.whole b).access (R t)).set) (rects_disjoint R blk h) (rects_cover R blk h) f₀
include h in
/-- and known: the whole agrees with each block on the block's elements. -/
theorem join_has (c : Dev nD) (X : (t : T) → (R t).shape.Idx → Elt F b.ty.elt) :
    (bigSep Finset.univ fun t => has m c ((Memref.whole b).access (R t)) fullShare (X t))
      = ((c : Thread nD τ).loc b ↦{fullShare} (fun i => ((Memref.whole b).access (R (blk i))).write (Elt F) (m ((c : Thread nD τ).loc b)) (X (blk i)) Finset.univ i) : sProp 𝕄) := by
  rw [cut R blk h c]
  refine bigSep_congr fun t _ => pointsTo_congr fun i hi => ?_
  have e : blk i = t := (h t i).mp (by have := hi; rwa [View.set_slice_whole] at this)
  have key : ∀ t', blk i = t' → ((Memref.whole b).access (R t')).write (Elt F) (m ((c : Thread nD τ).loc b)) (X t') Finset.univ i
      = ((Memref.whole b).access (R (blk i))).write (Elt F) (m ((c : Thread nD τ).loc b)) (X (blk i)) Finset.univ i := by
    rintro _ rfl; rfl
  exact key t e
end Cut

/-! ## The cuts -/

/-- Which ring's block of the send buffer an element is in, -/
def blkSend (i : S4x512x512.Idx) : Fin 4 := i 0
/-- which slot, -/
def blkRecv (i : S4x2x512x512.Idx) : Fin 4 × Fin 2 := (i 0, i 1)

/-- An element of the send buffer is in the block of ring `r` exactly when `blkSend` says so. -/
theorem blkSend_spec (r : Fin 4) (i : S4x512x512.Idx) : i ∈ (rSend r).set ↔ blkSend i = r := by
  rw [Rect.mem_set_unit]
  have h1 : (i 1).val < 512 := (i 1).isLt
  have h2 : (i 2).val < 512 := (i 2).isLt
  constructor
  · intro h
    have h0 := h 0
    refine Fin.ext ?_
    have e1 : (![r.val, 0, 0] : Fin 3 → ℕ) 0 = r.val := rfl
    have e2 : S1x512x512.size 0 = 1 := rfl
    rw [e1, e2] at h0
    show (i 0).val = r.val
    omega
  · rintro rfl a
    fin_cases a
    · exact ⟨le_refl _, Nat.lt_succ_self _⟩
    · exact ⟨Nat.zero_le _, by show (i 1).val < 0 + 512; omega⟩
    · exact ⟨Nat.zero_le _, by show (i 2).val < 0 + 512; omega⟩

/-- An element of the receive buffer is in the slot that `blkRecv` names. -/
theorem blkRecv_spec (t : Fin 4 × Fin 2) (i : S4x2x512x512.Idx) : i ∈ (rRecv t.1 t.2).set ↔ blkRecv i = t := by
  rw [Rect.mem_set_unit]
  have h2 : (i 2).val < 512 := (i 2).isLt
  have h3 : (i 3).val < 512 := (i 3).isLt
  constructor
  · intro h
    have h0 : t.1.val ≤ (i 0).val ∧ (i 0).val < t.1.val + 1 := h 0
    have h1 : t.2.val ≤ (i 1).val ∧ (i 1).val < t.2.val + 1 := h 1
    refine Prod.ext (Fin.ext ?_) (Fin.ext ?_)
    · show (i 0).val = t.1.val
      omega
    · show (i 1).val = t.2.val
      omega
  · rintro rfl a
    fin_cases a
    · exact ⟨le_refl _, Nat.lt_succ_self _⟩
    · exact ⟨le_refl _, Nat.lt_succ_self _⟩
    · exact ⟨Nat.zero_le _, by show (i 2).val < 0 + 512; omega⟩
    · exact ⟨Nat.zero_le _, by show (i 3).val < 0 + 512; omega⟩

/-- The row block of the result the `n`-th block ring `r` of device `d` stores is, -/
def rowOf (r : Fin 4) (d : Dev nD) (n : Fin 8) : Fin 8 := Fin.ofNat 8 (d.val + oix r n)
/-- and which one a row block is. -/
def nOf (r : Fin 4) (d : Dev nD) (t : Fin 8) : Fin 8 := if r.val < 2 then Fin.ofNat 8 (9 + d.val - t.val) else Fin.ofNat 8 (9 + t.val - d.val)

/-- The `n`-th block stored by ring `r` starts at its row block, -/
theorem outOff_row (r : Fin 4) (d : Dev nD) (n : Fin 8) : outOff r d (BitVec.ofNat 32 (oix r n)) 0 = 512 * (rowOf r d n).val := by
  revert r d n; decide +kernel
/-- and at the ring's column strip. -/
theorem outOff_col (r : Fin 4) (d : Dev nD) (n : Fin 8) : outOff r d (BitVec.ofNat 32 (oix r n)) 1 = 512 * r.val := by
  revert r d n; decide +kernel
/-- `nOf` is the inverse of `rowOf`: every row block is stored once. -/
theorem nOf_spec (r : Fin 4) (d : Dev nD) (n t : Fin 8) : rowOf r d n = t ↔ nOf r d t = n := by
  revert r d n t; decide +kernel

/-- Which block of the result an element is in: its column strip is the ring. -/
def blkOut (d : Dev nD) (i : S4096x2048.Idx) : Fin 4 × Fin 8 :=
  let r : Fin 4 := ⟨(i 1).val / 512, by have h : (i 1).val < 2048 := (i 1).isLt; omega⟩
  (r, nOf r d ⟨(i 0).val / 512, by have h : (i 0).val < 4096 := (i 0).isLt; omega⟩)

/-- An element of the result is in the block that `blkOut` names. -/
theorem blkOut_spec (d : Dev nD) (t : Fin 4 × Fin 8) (i : S4096x2048.Idx) : i ∈ (rOut t.1 d t.2).set ↔ blkOut d i = t := by
  obtain ⟨r, n⟩ := t
  rw [Rect.mem_set_unit]
  constructor
  · intro h
    have h0 := h 0
    have h1 := h 1
    dsimp only at h0 h1
    rw [outOff_row] at h0
    rw [outOff_col] at h1
    change 512 * (rowOf r d n).val ≤ (i 0).val ∧ (i 0).val < 512 * (rowOf r d n).val + 512 at h0
    change 512 * r.val ≤ (i 1).val ∧ (i 1).val < 512 * r.val + 512 at h1
    have er : (⟨(i 1).val / 512, by have h : (i 1).val < 2048 := (i 1).isLt; omega⟩ : Fin 4) = r := Fin.ext (by
      show (i 1).val / 512 = r.val
      omega)
    refine Prod.ext er ?_
    show nOf _ d _ = n
    rw [er, ← nOf_spec]
    refine Fin.ext ?_
    show (rowOf r d n).val = (i 0).val / 512
    omega
  · intro e a
    have er : (⟨(i 1).val / 512, by have h : (i 1).val < 2048 := (i 1).isLt; omega⟩ : Fin 4) = r := congrArg Prod.fst e
    have en := congrArg Prod.snd e
    change nOf _ d _ = n at en
    rw [er, ← nOf_spec] at en
    have hr : (i 1).val / 512 = r.val := congrArg Fin.val er
    have hn : (rowOf r d n).val = (i 0).val / 512 := congrArg Fin.val en
    fin_cases a
    · show outOff r d _ 0 ≤ (i 0).val ∧ (i 0).val < outOff r d _ 0 + 512
      rw [outOff_row]; show 512 * (rowOf r d n).val ≤ (i 0).val ∧ (i 0).val < 512 * (rowOf r d n).val + 512; omega
    · show outOff r d _ 1 ≤ (i 1).val ∧ (i 1).val < outOff r d _ 1 + 512
      rw [outOff_col]; show 512 * r.val ≤ (i 1).val ∧ (i 1).val < 512 * r.val + 512; omega

/-- The whole result of a device, block by block. -/
def outFull (c : Dev nD) : (cc0_stg4_0 : Ref sig .tc).ty.Contents (Elt F) := fun i =>
  (vOut (blkOut c i).1 c (blkOut c i).2).write (Elt F) (m ((c : Thread nD τ).loc cc0_stg4_0)) (outv m ρ c (blkOut c i).1 (blkOut c i).2.val) Finset.univ i

/-- The send buffer, of any contents, is its four blocks of any contents, -/
theorem cut_send (c : Dev nD) :
    (iprop(∃ f : Buf (Elt F) ((c : Thread nD τ).loc cc0_scratch2), (c : Thread nD τ).loc cc0_scratch2 ↦{fullShare} f) : sProp 𝕄)
      ⊢ bigSep Finset.univ fun r => some' c (vSend r) := cut_some (b := cc0_scratch2) rSend blkSend blkSend_spec c
/-- and back. -/
theorem join_send (m : (ℓ : Loc nD τ sig) → Buf (Elt F) ℓ) (c : Dev nD) : (bigSep Finset.univ fun r => some' c (vSend r))
    ⊢ (iprop(∃ f : Buf (Elt F) ((c : Thread nD τ).loc cc0_scratch2), (c : Thread nD τ).loc cc0_scratch2 ↦{fullShare} f) : sProp 𝕄) :=
  join_some (b := cc0_scratch2) rSend blkSend blkSend_spec c (m _)
/-- The same of the buffer of products, -/
theorem cut_pc (c : Dev nD) :
    (iprop(∃ f : Buf (Elt F) ((c : Thread nD τ).loc cc0_scratch4), (c : Thread nD τ).loc cc0_scratch4 ↦{fullShare} f) : sProp 𝕄)
      ⊢ bigSep Finset.univ fun r => some' c (vPc r) := cut_some (b := cc0_scratch4) rSend blkSend blkSend_spec c
/-- and back, -/
theorem join_pc (m : (ℓ : Loc nD τ sig) → Buf (Elt F) ℓ) (c : Dev nD) : (bigSep Finset.univ fun r => some' c (vPc r))
    ⊢ (iprop(∃ f : Buf (Elt F) ((c : Thread nD τ).loc cc0_scratch4), (c : Thread nD τ).loc cc0_scratch4 ↦{fullShare} f) : sProp 𝕄) :=
  join_some (b := cc0_scratch4) rSend blkSend blkSend_spec c (m _)
/-- and of the receive buffer and its eight slots, -/
theorem cut_recv (c : Dev nD) :
    (iprop(∃ f : Buf (Elt F) ((c : Thread nD τ).loc cc0_scratch3), (c : Thread nD τ).loc cc0_scratch3 ↦{fullShare} f) : sProp 𝕄)
      ⊢ bigSep Finset.univ fun r => iprop(some' c (vRecv r 0) ∗ some' c (vRecv r 1)) := by
  refine (cut_some (b := cc0_scratch3) (fun t : Fin 4 × Fin 2 => rRecv t.1 t.2) blkRecv blkRecv_spec c).trans ?_
  rw [bigSep_univ_prod]
  exact fam_mono fun r => Entails.of_eq (two _)
/-- and back. -/
theorem join_recv (m : (ℓ : Loc nD τ sig) → Buf (Elt F) ℓ) (c : Dev nD) : (bigSep Finset.univ fun r => iprop(some' c (vRecv r 0) ∗ some' c (vRecv r 1)))
    ⊢ (iprop(∃ f : Buf (Elt F) ((c : Thread nD τ).loc cc0_scratch3), (c : Thread nD τ).loc cc0_scratch3 ↦{fullShare} f) : sProp 𝕄) := by
  refine BIBase.Entails.trans ?_ (join_some (b := cc0_scratch3) (fun t : Fin 4 × Fin 2 => rRecv t.1 t.2) blkRecv blkRecv_spec c (m _))
  rw [bigSep_univ_prod]
  exact fam_mono fun r => Entails.of_eq (two (fun p => some' c (vRecv r p))).symm
/-- The result buffer, of any contents, is its blocks, none of them stored yet. -/
theorem cut_out (c : Dev nD) :
    (iprop(∃ f : Buf (Elt F) ((c : Thread nD τ).loc cc0_stg4_0), (c : Thread nD τ).loc cc0_stg4_0 ↦{fullShare} f) : sProp 𝕄)
      ⊢ bigSep Finset.univ fun r => outsSt m ρ c r 0 := by
  refine (cut_some (b := cc0_stg4_0) (fun t : Fin 4 × Fin 8 => rOut t.1 c t.2) (blkOut c) (blkOut_spec c) c).trans ?_
  rw [bigSep_univ_prod]
  exact fam_mono fun r => fam_mono fun n => Entails.of_eq (if_neg (Nat.not_lt_zero _)).symm
/-- With every block stored it holds the whole result. -/
theorem join_out (c : Dev nD) : (bigSep Finset.univ fun r => outsSt m ρ c r 8)
    ⊢ ((c : Thread nD τ).loc cc0_stg4_0 ↦{fullShare} outFull m ρ c : sProp 𝕄) := by
  refine BIBase.Entails.trans ?_ (Entails.of_eq (join_has m (b := cc0_stg4_0) (fun t : Fin 4 × Fin 8 => rOut t.1 c t.2) (blkOut c) (blkOut_spec c) c
    (fun t => outv m ρ c t.1 t.2.val)))
  rw [bigSep_univ_prod]
  exact fam_mono fun r => fam_mono fun n => Entails.of_eq (if_pos n.isLt)

end Cert.Ring
-- ==== Proof.Body.lean ====
/- The whole body of one device. -/
module

public import proofs.«01_k».proof.Proof.Blocks

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slot_take slot_release released readerAt writeTok slotInv)

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × CK → ℕ) (Ks : Key → ℕ)

/-! ## Steps in sequence, and one of each ring -/

/-- A step that may be taken while more is owed may be taken while less is. -/
theorem Step.mono {c : Dev nD} {n n' : ℕ} {P R : sProp 𝕄} {p : Pr F PUnit} {A B : CellTallies nD τ sig ℕ}
    (h : Step m ρ K Ks c n P p R A B) (hn : n ≤ n') : Step m ρ K Ks c n' P p R A B :=
  fun X Q hX => h X Q (hX.mono hn)

/-- Two steps in sequence. -/
theorem Step.seq {c : Dev nD} {n : ℕ} {P R T : sProp 𝕄} {p q : Pr F PUnit} {A B C : CellTallies nD τ sig ℕ}
    (h : Step m ρ K Ks c n P p R A B) (h' : Step m ρ K Ks c n R q T B C) : Step m ρ K Ks c n P (p >>= fun _ => q) T A C := by
  intro X Q hX
  simp only [wpc, wp_bind]
  iintro ⟨#Hctx, Hop, HP, Hown, HQ⟩
  iapply (h X _ hX)
  isplitr; · iexact Hctx
  isplitl [Hop]; · iexact Hop
  isplitl [HP]; · iexact HP
  isplitl [Hown]; · iexact Hown
  iintro ⟨Hop, HR, Hown⟩
  iapply (h' X Q hX)
  isplitr; · iexact Hctx
  isplitl [Hop]; · iexact Hop
  isplitl [HR]; · iexact HR
  isplitl [Hown]; · iexact Hown
  iexact HQ

/-- One step of each ring, one after the other, is a step of all four. -/
theorem Step.rings {c : Dev nD} {n : ℕ} {I J : Fin 4 → sProp 𝕄} {f : Fin 4 → Pr F PUnit} {A B : Fin 4 → CellTallies nD τ sig ℕ}
    (hA : ∀ r, Above n (A r)) (hB : ∀ r, Above n (B r)) (h : ∀ r, Step m ρ K Ks c n (I r) (f r) (J r) (A r) (B r)) :
    Step m ρ K Ks c n (bigSep Finset.univ I) (Ring.rings f) (bigSep Finset.univ J) (A 0 + A 1 + A 2 + A 3) (B 0 + B 1 + B 2 + B 3) := by
  intro X Q hX
  unfold Ring.rings
  rw [four, four]
  simp only [wpc, wp_bind]
  rw [show X + (A 0 + A 1 + A 2 + A 3) = X + A 1 + A 2 + A 3 + A 0 by ac_rfl]
  iintro ⟨#Hctx, Hop, ⟨I0, I1, I2, I3⟩, Hown, HQ⟩
  iapply (h 0 _ _ (((hX.add (hA 1)).add (hA 2)).add (hA 3)))
  isplitr; · iexact Hctx
  isplitl [Hop]; · iexact Hop
  isplitl [I0]; · iexact I0
  isplitl [Hown]; · iexact Hown
  rw [show X + A 1 + A 2 + A 3 + B 0 = X + B 0 + A 2 + A 3 + A 1 by ac_rfl]
  iintro ⟨Hop, J0, Hown⟩
  iapply (h 1 _ _ (((hX.add (hB 0)).add (hA 2)).add (hA 3)))
  isplitr; · iexact Hctx
  isplitl [Hop]; · iexact Hop
  isplitl [I1]; · iexact I1
  isplitl [Hown]; · iexact Hown
  rw [show X + B 0 + A 2 + A 3 + B 1 = X + B 0 + B 1 + A 3 + A 2 by ac_rfl]
  iintro ⟨Hop, J1, Hown⟩
  iapply (h 2 _ _ (((hX.add (hB 0)).add (hB 1)).add (hA 3)))
  isplitr; · iexact Hctx
  isplitl [Hop]; · iexact Hop
  isplitl [I2]; · iexact I2
  isplitl [Hown]; · iexact Hown
  rw [show X + B 0 + B 1 + A 3 + B 2 = X + B 0 + B 1 + B 2 + A 3 by ac_rfl]
  iintro ⟨Hop, J2, Hown⟩
  iapply (h 3 _ _ (((hX.add (hB 0)).add (hB 1)).add (hB 2)))
  isplitr; · iexact Hctx
  isplitl [Hop]; · iexact Hop
  isplitl [I3]; · iexact I3
  isplitl [Hown]; · iexact Hown
  rw [show X + B 0 + B 1 + B 2 + B 3 = X + (B 0 + B 1 + B 2 + B 3) by ac_rfl]
  iintro ⟨Hop, J3, Hown⟩
  iapply HQ
  isplitl [Hop]; · iexact Hop
  isplitr [Hown]
  · isplitl [J0]; · iexact J0
    isplitl [J1]; · iexact J1
    isplitl [J2]; · iexact J2
    iexact J3
  iexact Hown

/-! ## The four rings -/

/-- The rings before transfer `k`, `j` blocks of the result stored. -/
def allSt (c : Dev nD) (k j : ℕ) : sProp 𝕄 := bigSep Finset.univ fun r => iprop(ringSt m ρ c r k ∗ some' c (vPc r) ∗ outsSt m ρ c r j)
/-- The same with a product at full width in place. -/
def allPc (c : Dev nD) (k j : ℕ) (x : Fin 4 → Fin 9) : sProp 𝕄 :=
  bigSep Finset.univ fun r => iprop(ringSt m ρ c r k ∗ has m c (vPc r) fullShare (pcv m ρ c r (x r)) ∗ outsSt m ρ c r j)
/-- The rings before the first transfer, -/
def allStart (c : Dev nD) : sProp 𝕄 := bigSep Finset.univ fun r => iprop(ring0 c r (some' c (vSend r)) ∗ some' c (vPc r) ∗ outsSt m ρ c r 0)
/-- and after the last. -/
def allEnd (c : Dev nD) : sProp 𝕄 := bigSep Finset.univ fun r => iprop(ringEnd c r ∗ some' c (vPc r) ∗ outsSt m ρ c r 8)

/-- In all rings: the next product is computed. -/
theorem all_prod (c : Dev nD) (k j : ℕ) (x : Fin 4 → Fin 9) (n : ℕ) (h1 : 1 ≤ k) :
    Step m ρ K Ks c 28 (allSt m ρ c k j) (rings fun r => prod c r (x r)) (allPc m ρ c k j x) (allOw c k) (allOw c k) :=
  (Step.rings m ρ K Ks (n := 0) (fun r => (ringOw_level c r k k h1 (le_refl k)).mono (Nat.zero_le _))
    (fun r => (ringOw_level c r k k h1 (le_refl k)).mono (Nat.zero_le _)) fun r => step_prod m ρ K Ks c r (x r) _ _ _ _).mono m ρ K Ks (by decide)

/-- In all rings: reduction step `k`. -/
theorem all_reduce (c : Dev nD) (k : ℕ) (h1 : 1 ≤ k) (h6 : k ≤ 6) :
    Step m ρ K Ks c 28 (allPc m ρ c k 0 fun r => xix r k) (rings fun r => reduceStep c r k) (allSt m ρ c (k + 1) 0) (allOw c k) (allOw c (k + 1)) :=
  (Step.rings m ρ K Ks (fun r => ringOw_level c r k k h1 (le_refl k)) (fun r => ringOw_level c r k (k + 1) h1 (Nat.le_succ k))
    fun r => step_reduce m ρ K Ks c r k h1 h6 _).mono m ρ K Ks (by omega)

/-- In all rings: distribution step `n`. -/
theorem all_spread (c : Dev nD) (n : Fin 8) (h1 : 1 ≤ n.val) (h6 : n.val ≤ 6) :
    Step m ρ K Ks c 28 (allSt m ρ c (n.val + 7) n.val) (rings fun r => spreadStep c (scale m ρ c) r n) (allSt m ρ c (n.val + 7 + 1) (n.val + 1))
      (allOw c (n.val + 7)) (allOw c (n.val + 7 + 1)) :=
  (Step.rings m ρ K Ks (fun r => ringOw_level c r _ _ (by omega) (le_refl _)) (fun r => ringOw_level c r _ _ (by omega) (Nat.le_succ _))
    fun r => step_spread m ρ K Ks c r n h1 h6 _).mono m ρ K Ks (by omega)

/-- The reduction, from the first transfer to the seventh. -/
theorem step_reduce_half (c : Dev nD) : Step m ρ K Ks c 28 (allSt m ρ c 1 0) (reduce c) (allSt m ρ c 7 0) (allOw c 1) (allOw c 7) := by
  have hp (k : ℕ) (h : 1 ≤ k) := all_prod m ρ K Ks c k 0 (fun r => xix r k) 0 h
  have hr (k : ℕ) (h : 1 ≤ k) (h' : k ≤ 6) := all_reduce m ρ K Ks c k h h'
  unfold reduce
  exact (hp 1 (by decide)).seq m ρ K Ks <| (hr 1 (by decide) (by decide)).seq m ρ K Ks <|
    (hp 2 (by decide)).seq m ρ K Ks <| (hr 2 (by decide) (by decide)).seq m ρ K Ks <|
    (hp 3 (by decide)).seq m ρ K Ks <| (hr 3 (by decide) (by decide)).seq m ρ K Ks <|
    (hp 4 (by decide)).seq m ρ K Ks <| (hr 4 (by decide) (by decide)).seq m ρ K Ks <|
    (hp 5 (by decide)).seq m ρ K Ks <| (hr 5 (by decide) (by decide)).seq m ρ K Ks <|
    (hp 6 (by decide)).seq m ρ K Ks <| hr 6 (by decide) (by decide)

/-- The end of the reduction, the distribution and the last blocks. -/
theorem step_spread_half (c : Dev nD) :
    Step m ρ K Ks c 28 (allSt m ρ c 7 0) (spread c (scale m ρ c)) (allEnd m ρ c) (allOw c 7) (allOw c 14) := by
  have hs (n : Fin 8) (h : 1 ≤ n.val) (h' : n.val ≤ 6) := all_spread m ρ K Ks c n h h'
  have hf : Step m ρ K Ks c 28 (allPc m ρ c 7 0 xfin) (rings fun r => finStep c (scale m ρ c) r) (allSt m ρ c 8 1) (allOw c 7) (allOw c 8) :=
    (Step.rings m ρ K Ks (fun r => ringOw_level c r 7 7 (by decide) (le_refl _)) (fun r => ringOw_level c r 7 8 (by decide) (by decide))
      fun r => step_fin m ρ K Ks c r).mono m ρ K Ks (by decide)
  have h0 (r : Fin 4) : ringOw c r 14 = 0 := by unfold ringOw; rw [sendOw_done c r 14 (le_refl _), credOw_done c r 13 (by decide), add_zero]
  have ht : Step m ρ K Ks c 28 (allSt m ρ c 14 7) (rings fun r => tailStep c (scale m ρ c) r) (allEnd m ρ c) (allOw c 14) (allOw c 14) :=
    Step.rings m ρ K Ks (A := fun r => ringOw c r 14) (B := fun r => ringOw c r 14) (fun r => by rw [h0]; exact Above.zero _) (fun r => by rw [h0]; exact Above.zero _)
      fun r => step_tail m ρ K Ks c r _ _ (by rw [h0]; exact Above.zero _)
  unfold spread
  exact (all_prod m ρ K Ks c 7 0 xfin 0 (by decide)).seq m ρ K Ks <| hf.seq m ρ K Ks <|
    (hs 1 (by decide) (by decide)).seq m ρ K Ks <| (hs 2 (by decide) (by decide)).seq m ρ K Ks <|
    (hs 3 (by decide) (by decide)).seq m ρ K Ks <| (hs 4 (by decide) (by decide)).seq m ρ K Ks <|
    (hs 5 (by decide) (by decide)).seq m ρ K Ks <| (hs 6 (by decide) (by decide)).seq m ρ K Ks ht

/-- In all rings: the first block is made, -/
theorem step_open (c : Dev nD) :
    Step m ρ K Ks c 0 (allStart m ρ c) (rings fun r => first c r)
      (bigSep Finset.univ fun r => iprop(ring0 c r (sendHas m ρ c r fullShare 0) ∗ some' c (vPc r) ∗ outsSt m ρ c r 0)) (allOw c 0) (allOw c 0) :=
  Step.rings m ρ K Ks (n := 0) (A := fun r => ringOw c r 0) (B := fun r => ringOw c r 0) (fun r => ringOw_above c r 0 0 (by decide) (by decide))
    (fun r => ringOw_above c r 0 0 (by decide) (by decide)) fun r => step_first m ρ K Ks c r _ _ _
/-- and sent. -/
theorem step_start (c : Dev nD) :
    Step m ρ K Ks c 0 (bigSep Finset.univ fun r => iprop(ring0 c r (sendHas m ρ c r fullShare 0) ∗ some' c (vPc r) ∗ outsSt m ρ c r 0))
      (rings fun r => send c r 0) (allSt m ρ c 1 0) (allOw c 0) (allOw c 1) :=
  Step.rings m ρ K Ks (n := 0) (A := fun r => ringOw c r 0) (B := fun r => ringOw c r 1) (fun r => ringOw_above c r 0 0 (by decide) (by decide))
    (fun r => ringOw_above c r 1 0 (by decide) (by decide)) fun r => step_send0 m ρ K Ks c r _ _

/-! ## Entry and exit -/

/-- A device's inputs as staged. -/
def inputs (c : Dev nD) : sProp 𝕄 :=
  iprop(((c : Thread nD τ).loc cc0_stg0_0 ↦{fullShare} xstg m ρ c) ∗ ((c : Thread nD τ).loc cc0_stg1_0 ↦{fullShare} wstg m ρ c)
    ∗ ((c : Thread nD τ).loc cc0_stg2_0 ↦{fullShare} sxstg m ρ c) ∗ ((c : Thread nD τ).loc cc0_stg3_0 ↦{fullShare} swstg m ρ c))
/-- A buffer held whole, contents unknown. -/
abbrev anyBuf (c : Dev nD) (b : Ref sig .tc) : sProp 𝕄 :=
  iprop(∃ f : Buf (Elt F) ((c : Thread nD τ).loc b), (c : Thread nD τ).loc b ↦{fullShare} f)
/-- The slots of device `c` open to its senders. -/
def readyOwn (c : Dev nD) : sProp 𝕄 := bigSep Finset.univ fun r => iprop(ready c r 0 ∗ ready c r 1)
/-- The slots of its receivers open to device `c`. -/
def readyDn (c : Dev nD) : sProp 𝕄 := bigSep Finset.univ fun r => iprop(ready (dn r c) r 0 ∗ ready (dn r c) r 1)

instance readyOwn_persistent (c : Dev nD) : BI.Persistent (readyOwn (F := F) c) := by unfold readyOwn; infer_instance
instance readyDn_persistent (c : Dev nD) : BI.Persistent (readyDn (F := F) c) := by unfold readyDn; infer_instance

/-- What a device has for the barrier, -/
def barTok (c : Dev nD) : sProp 𝕄 :=
  iprop(dutyTok ER (barCell (lft c)) 0 0 ∗ dutyTok ER (barCell (rgt c)) 0 1 ∗ cred (tallyAt (barCell c) 1 2) ∗ atPos ER (barCell c) 0 ∅ 0)
/-- and for the exit. -/
def exitTok (c : Dev nD) : sProp 𝕄 :=
  iprop(dutyTok ER (exitCell (lft c)) 0 0 ∗ dutyTok ER (exitCell (rgt c)) 0 1 ∗ cred (tallyAt (exitCell c) 100 2) ∗ atPos ER (exitCell c) 0 ∅ 0)

/-- The origin of an array of two axes. -/
theorem hz2 : (![0, 0] : Fin 2 → ℕ) = fun _ => 0 := funext fun a => by fin_cases a <;> rfl

/-- Reading the whole left factor gives it, -/
theorem read_x (c : Dev nD) : View.readAt (Elt F) bX.view rX.toLoadRect (xstg m ρ c) = xstg m ρ c :=
  Memref.readAt_unit_zero (Elt F) cc0_stg0_0 hz2 _ _
/-- as does reading the whole right factor. -/
theorem read_w (c : Dev nD) : View.readAt (Elt F) bW.view rW.toLoadRect (wstg m ρ c) = wstg m ρ c :=
  Memref.readAt_unit_zero (Elt F) cc0_stg1_0 hz2 _ _
/-- Storing all of the widened left factor leaves what was stored, -/
theorem write_x (f w) : (bXb.access rX).write (Elt F) f w Finset.univ = w := Memref.write_access_unit_zero_univ (Elt F) cc0_scratch0 hz2 _ f w
/-- as does storing all of the widened right factor. -/
theorem write_w (f w) : (bWb.access rW).write (Elt F) f w Finset.univ = w := Memref.write_access_unit_zero_univ (Elt F) cc0_scratch1 hz2 _ f w

/-- The barrier's first round has the duty of the right neighbour -/
theorem mem_bar0 (c : Dev nD) : 0 ∈ (ringRd m ρ).duties (barCell c) 0 := by
  rw [duties_eq m ρ c .bar 0]; decide
/-- and that of the left, -/
theorem mem_bar1 (c : Dev nD) : 1 ∈ (ringRd m ρ).duties (barCell c) 0 := by
  rw [duties_eq m ρ c .bar 0]; decide
/-- as has the exit semaphore's, -/
theorem mem_exit0 (c : Dev nD) : 0 ∈ (ringRd m ρ).duties (exitCell c) 0 := by
  rw [duties_eq m ρ c .exit 0]; decide
/-- of either neighbour. -/
theorem mem_exit1 (c : Dev nD) : 1 ∈ (ringRd m ρ).duties (exitCell c) 0 := by
  rw [duties_eq m ρ c .exit 0]; decide

/-- A device's ready slots are what its signal to the left hands over, -/
theorem pay_lft (c : Dev nD) : readyOwn (F := F) c ⊢ (ringRd m ρ).payload ((lft c : Thread nD τ), SemLoc.reg semBar) 0 0 := by
  refine BIBase.Entails.trans ?_ (Entails.of_eq (payload_eq m ρ (lft c) .bar 0 0).symm)
  show _ ⊢ barPay (lft c) 0
  unfold readyOwn barPay
  rw [if_pos rfl, rgt_lft, four]
  iintro ⟨H0, H1, -, -⟩
  isplitl [H0]; · iexact H0
  iexact H1
/-- and what its signal to the right hands over. -/
theorem pay_rgt (c : Dev nD) : readyOwn (F := F) c ⊢ (ringRd m ρ).payload ((rgt c : Thread nD τ), SemLoc.reg semBar) 0 1 := by
  refine BIBase.Entails.trans ?_ (Entails.of_eq (payload_eq m ρ (rgt c) .bar 0 1).symm)
  show _ ⊢ barPay (rgt c) 1
  unfold readyOwn barPay
  rw [if_neg (by decide), lft_rgt, four]
  iintro ⟨-, -, H2, H3⟩
  isplitl [H2]; · iexact H2
  iexact H3
/-- What both neighbours hand over says that every slot the device sends into first is ready. -/
theorem pay_got (c : Dev nD) : iprop(barPay (F := F) c 0 ∗ barPay c 1) ⊢ readyDn c := by
  unfold readyDn barPay
  rw [if_pos rfl, if_neg (by decide), four]
  iintro ⟨⟨H0, H1⟩, H2, H3⟩
  isplitl [H0]; · iexact H0
  isplitl [H1]; · iexact H1
  isplitl [H2]; · iexact H2
  iexact H3

/-- The entry: the scale, the widened factors, and the barrier with both neighbours. -/
theorem wp_entry (c : Dev nD) (X : CellTallies nD τ sig ℕ) (hX : Above 1 X) (Q : F .f32 → sProp 𝕄) :
    iprop(ctx m ρ K Ks ∗ inputs m ρ c ∗ anyBuf c cc0_scratch0 ∗ anyBuf c cc0_scratch1 ∗ barTok c ∗ readyOwn c
        ∗ ow c (X + tallyAt (barCell (rgt c)) 1 1 + tallyAt (barCell (lft c)) 1 1)
        ∗ ((inputs m ρ c ∗ opnds m ρ c ∗ atPos ER (barCell c) 1 ∅ 0 ∗ readyDn c ∗ ow c X) -∗ Q (scale m ρ c)))
      ⊢ wpc c (entry c) Q := by
  unfold inputs barTok ow opnds scale entry smemLoad semSignalWord semWaitWord
  simp only [wpc, wp_bind]
  iintro ⟨#Hctx, ⟨Hx, Hw, Hsx, Hsw⟩, ⟨%fx, Hxb⟩, ⟨%fw, Hwb⟩, ⟨Hd0, Hd1, Hcr, Hat⟩, #Hready, ⟨%W, Hown⟩, HQ⟩
  iapply (wp_load_rect 𝒱₀ (c : Thread nD τ) none Set.univ (m := bSX) (r := rS) (Finset.subset_univ _)) $$ Hsx; iintro Hsx
  rw [wp_ret]; imodintro
  iapply (wp_load_rect 𝒱₀ (c : Thread nD τ) none Set.univ (m := bSW) (r := rS) (Finset.subset_univ _)) $$ Hsw; iintro Hsw
  rw [wp_ret]; imodintro
  iapply (wp_load 𝒱₀ (c : Thread nD τ) none Set.univ (m := bX) (Finset.subset_univ _)) $$ Hx; iintro Hx
  rw [wp_ret, read_x]; imodintro
  iapply (wp_load 𝒱₀ (c : Thread nD τ) none Set.univ (m := bXb) (Finset.subset_univ _)) $$ Hxb; iintro Hxb
  rw [wp_ret]; imodintro
  iapply (wp_store 𝒱₀ (c : Thread nD τ) none Set.univ (m := bXb) (r := rX) (Mk := Finset.univ) (Finset.subset_univ _)) $$ Hxb; iintro Hxb
  rw [wp_ret, write_x]; imodintro
  iapply (wp_load 𝒱₀ (c : Thread nD τ) none Set.univ (m := bW) (Finset.subset_univ _)) $$ Hw; iintro Hw
  rw [wp_ret, read_w]; imodintro
  iapply (wp_load 𝒱₀ (c : Thread nD τ) none Set.univ (m := bWb) (Finset.subset_univ _)) $$ Hwb; iintro Hwb
  rw [wp_ret]; imodintro
  iapply (wp_store 𝒱₀ (c : Thread nD τ) none Set.univ (m := bWb) (r := rW) (Mk := Finset.univ) (Finset.subset_univ _)) $$ Hwb; iintro Hwb
  rw [wp_ret, write_w]; imodintro
  ihave HIl := (ctx_cell m ρ K Ks (lft c) .bar) $$ Hctx
  ihave #HRl := (ctx_reached m ρ K Ks (lft c) .bar) $$ Hctx
  iapply (Rounds.wp_signal 𝒱₀ ER (ringRd m ρ) (c : Thread nD τ) none (dst := (lft c : Thread nD τ)) (κ := K (lft c, .bar))
      (sem := semBar) (r := 0) (d := 0) (mem_bar0 m ρ (lft c)) ((amount_eq m ρ (lft c) .bar 0 0).trans rfl) 1
      (X + tallyAt (barCell (rgt c)) 1 1) rfl) $$ [HIl Hown Hd0]
  · isplitl [HIl]; · iexact HIl
    isplitl [Hown]; · iexact Hown
    isplitl [Hd0]; · iexact Hd0
    isplitr; · iapply (pay_lft m ρ c); iexact Hready
    iexact HRl
  iintro Hown
  rw [wp_ret]; imodintro
  ihave HIr := (ctx_cell m ρ K Ks (rgt c) .bar) $$ Hctx
  ihave #HRr := (ctx_reached m ρ K Ks (rgt c) .bar) $$ Hctx
  iapply (Rounds.wp_signal 𝒱₀ ER (ringRd m ρ) (c : Thread nD τ) none (dst := (rgt c : Thread nD τ)) (κ := K (rgt c, .bar))
      (sem := semBar) (r := 0) (d := 1) (mem_bar1 m ρ (rgt c)) ((amount_eq m ρ (rgt c) .bar 0 1).trans rfl) 1
      X rfl) $$ [HIr Hown Hd1]
  · isplitl [HIr]; · iexact HIr
    isplitl [Hown]; · iexact Hown
    isplitl [Hd1]; · iexact Hd1
    isplitr; · iapply (pay_rgt m ρ c); iexact Hready
    iexact HRr
  iintro Hown
  rw [wp_ret]; imodintro
  ihave HI := (ctx_cell m ρ K Ks c .bar) $$ Hctx
  iapply (Rounds.wp_wait_rest_token 𝒱₀ ER (ringRd m ρ) (c : Thread nD τ) none (κ := K (c, .bar))
      (wpE_semWait_eq 𝒱₀ (c : Thread nD τ) none Set.univ) (Set.mem_univ _) 1 (O := X) (W := W) (R := 0) (m := 0) (T := ∅)
      (by rw [Nat.zero_add]; exact (expect_bar m ρ c).symm)) $$ [HI Hcr Hown Hat]
  · isplitl [HI]; · iexact HI
    isplitl [Hcr]; · iexact Hcr
    isplitl [Hown]; · iexact Hown
    isplitr
    · iapply (ctx_wait m ρ K Ks c (.reg semBar) 1 (by decide) X hX); iexact Hctx
    iexact Hat
  iintro ⟨Hown, Hat, -, Hpay⟩
  ihave Hpay : iprop(barPay c 0 ∗ barPay c 1) $$ [Hpay]
  · iapply (Entails.of_eq (rest_bar m ρ c)); iexact Hpay
  ihave #Hdn := (pay_got (F := F) c) $$ Hpay
  rw [wp_ret]; imodintro
  rw [Prog.pure_eq_ret, wp_ret]; imodintro
  iapply HQ
  isplitl [Hx Hw Hsx Hsw]
  · isplitl [Hx]; · iexact Hx
    isplitl [Hw]; · iexact Hw
    isplitl [Hsx]; · iexact Hsx
    iexact Hsw
  isplitl [Hxb Hwb]
  · isplitl [Hxb]; · iexact Hxb
    iexact Hwb
  isplitl [Hat]; · iexact Hat
  isplitr; · iexact Hdn
  iexists _; iexact Hown

/-- The exit: both neighbours are signalled and waited for, and the semaphore ends at zero. -/
theorem wp_leave (c : Dev nD) (Q : PUnit → sProp 𝕄) :
    iprop(ctx m ρ K Ks ∗ exitTok c ∗ ow c (exitOw c) ∗ ((semVal (exitCell c) 0 ∗ ow c 0) -∗ Q ⟨⟩)) ⊢ wpc c (leave c) Q := by
  unfold exitTok ow leave semSignalWord semWaitWord
  simp only [wpc, wp_bind]
  iintro ⟨#Hctx, ⟨Hd0, Hd1, Hcr, Hat⟩, ⟨%W, Hown⟩, HQ⟩
  have pay (c' : Dev nD) (d : ℕ) : (ringRd m ρ).payload ((c' : Thread nD τ), SemLoc.reg semExit) 0 d = iprop(emp) := payload_eq m ρ c' .exit 0 d
  ihave HIl := (ctx_cell m ρ K Ks (lft c) .exit) $$ Hctx
  ihave #HRl := (ctx_reached m ρ K Ks (lft c) .exit) $$ Hctx
  iapply (Rounds.wp_signal 𝒱₀ ER (ringRd m ρ) (c : Thread nD τ) none (dst := (lft c : Thread nD τ)) (κ := K (lft c, .exit))
      (sem := semExit) (r := 0) (d := 0) (mem_exit0 m ρ (lft c)) ((amount_eq m ρ (lft c) .exit 0 0).trans rfl) 100
      (tallyAt (exitCell (rgt c)) 100 1) rfl) $$ [HIl Hown Hd0]
  · isplitl [HIl]; · iexact HIl
    isplitl [Hown]; · iexact Hown
    isplitl [Hd0]; · iexact Hd0
    isplitr; · iapply (Entails.of_eq (pay (lft c) 0).symm); iempintro
    iexact HRl
  iintro Hown
  rw [wp_ret]; imodintro
  ihave HIr := (ctx_cell m ρ K Ks (rgt c) .exit) $$ Hctx
  ihave #HRr := (ctx_reached m ρ K Ks (rgt c) .exit) $$ Hctx
  iapply (Rounds.wp_signal 𝒱₀ ER (ringRd m ρ) (c : Thread nD τ) none (dst := (rgt c : Thread nD τ)) (κ := K (rgt c, .exit))
      (sem := semExit) (r := 0) (d := 1) (mem_exit1 m ρ (rgt c)) ((amount_eq m ρ (rgt c) .exit 0 1).trans rfl) 100
      0 (by rw [zero_add])) $$ [HIr Hown Hd1]
  · isplitl [HIr]; · iexact HIr
    isplitl [Hown]; · iexact Hown
    isplitl [Hd1]; · iexact Hd1
    isplitr; · iapply (Entails.of_eq (pay (rgt c) 1).symm); iempintro
    iexact HRr
  iintro Hown
  rw [wp_ret]; imodintro
  ihave #HI := (ctx_cell m ρ K Ks c .exit) $$ Hctx
  iapply (Rounds.wp_wait_rest_token 𝒱₀ ER (ringRd m ρ) (c : Thread nD τ) none (κ := K (c, .exit))
      (wpE_semWait_eq 𝒱₀ (c : Thread nD τ) none Set.univ) (Set.mem_univ _) 100 (O := 0) (W := W) (R := 0) (m := 0) (T := ∅)
      (by rw [Nat.zero_add]; exact (expect_exit m ρ c).symm)) $$ [Hcr Hown Hat]
  · isplitr; · iexact HI
    isplitl [Hcr]; · iexact Hcr
    isplitl [Hown]; · iexact Hown
    isplitr
    · iapply (ctx_wait m ρ K Ks c (.reg semExit) 100 (by decide) 0 (Above.zero _)); iexact Hctx
    iexact Hat
  iintro ⟨Hown, Hat, -, -⟩
  imod (Rounds.cell_close ER (ringRd m ρ) (Set.mem_univ (K (c, .exit))) (fun h => h) (R := 0 + 1) (fun j hj => duties_later m ρ c .exit j hj)) $$ [Hat] with Hz
  · isplitr; · iexact HI
    iexact Hat
  rw [wp_ret]; imodintro
  iapply HQ
  isplitl [Hz]; · iexact Hz
  iexists _; iexact Hown

/-! ## Opening and closing a ring -/

/-- What a device has for ring `r` at launch. -/
def ringTok (c : Dev nD) (r : Fin 4) : sProp 𝕄 :=
  iprop(bigSep (Finset.Ico 0 14) (waitKit c r) ∗ (recvPos c r 0 ∗ recvPos c r 1) ∗ bigSep (Finset.Ico 0 12) (credKit c r)
    ∗ bigSep (Finset.Ico 0 12) (awaitKit c r) ∗ atPos ER (credCell c r) 0 ∅ 0 ∗ bigSep (Finset.Ico 0 14) (sendKit c r)
    ∗ atPos ER (sendCell c r) 0 ∅ 0 ∗ readerAt ES (c, r, slot 0) 0 ∗ readerAt ES (c, r, slot 1) 0)
/-- A ring whose slots are open. -/
def ringOpen (c : Dev nD) (r : Fin 4) : sProp 𝕄 :=
  iprop(recvSide c r 0 ∗ credSide c r 0 ∗ awaitSide c r 0 ∗ bigSep (Finset.Ico 0 14) (sendKit c r) ∗ idle c r 0)

/-- A free slot is declared ready for its first transfer, -/
theorem open_slot (c : Dev nD) (r : Fin 4) (k : ℕ) (hk : k < 2) :
    iprop(ctx m ρ K Ks ∗ readerAt ES (c, r, slot k) 0 ∗ some' c (vRecv r (slot k))) ⊢ (|={Set.univ}=> (rdAt c r k ∗ ready c r k) : sProp 𝕄) := by
  have hk0 : k / 2 = 0 := Nat.div_eq_of_lt hk
  iintro ⟨#Hctx, Hrd, Hslot⟩
  ihave HI := (ctx_slot m ρ K Ks (c, r, slot k)) $$ Hctx
  ihave #Hre := (ctx_reached m ρ K Ks c (.recv r (slot k))) $$ Hctx
  imod (slot_release ES (Set.mem_univ (Ks (c, r, slot k))) (keySlot_false (c, r, slot k)) 0) $$ [HI Hrd Hslot] with ⟨Hrd, #Hrel⟩
  · isplitl [HI]; · iexact HI
    isplitl [Hrd]; · iexact Hrd
    iexact Hslot
  imodintro
  unfold rdAt ready
  rw [hk0]
  isplitl [Hrd]; · iexact Hrd
  isplitr; · iexact Hrel
  iexact Hre

/-- as are both slots of a ring. -/
theorem open_ring (c : Dev nD) (r : Fin 4) :
    iprop(ctx m ρ K Ks ∗ ringTok c r ∗ (some' c (vRecv r 0) ∗ some' c (vRecv r 1)))
      ⊢ (|={Set.univ}=> (ringOpen c r ∗ (ready c r 0 ∗ ready c r 1)) : sProp 𝕄) := by
  unfold ringTok
  iintro ⟨#Hctx, ⟨H1, ⟨Hp0, Hp1⟩, H2, H3, H4, H5, H6, Hr0, Hr1⟩, Hs0, Hs1⟩
  imod (open_slot m ρ K Ks c r 0 (by decide)) $$ [Hr0 Hs0] with ⟨Hr0, #Hready0⟩
  · isplitr; · iexact Hctx
    isplitl [Hr0]; · iexact Hr0
    iexact Hs0
  imod (open_slot m ρ K Ks c r 1 (by decide)) $$ [Hr1 Hs1] with ⟨Hr1, #Hready1⟩
  · isplitr; · iexact Hctx
    isplitl [Hr1]; · iexact Hr1
    iexact Hs1
  ihave #Hsr := (ctx_reached m ρ K Ks c (.send r)) $$ Hctx
  imodintro
  unfold ringOpen recvSide credSide awaitSide credSt idle
  isplitr []
  · isplitl [H1 Hp0 Hp1]
    · isplitl [H1]; · iexact H1
      isplitl [Hp0]; · iexact Hp0
      iexact Hp1
    isplitl [H2 Hr0 Hr1]
    · isplitl [H2]; · iexact H2
      isplitl [Hr0]; · iexact Hr0
      isplitl [Hr1]; · iexact Hr1
      iexact Hready1
    isplitl [H3 H4]
    · isplitl [H3]; · iexact H3
      iexists ∅
      isplitr; · ipureintro; exact ⟨Finset.empty_subset _, by decide⟩
      isplitl [H4]; · iexact H4
      rw [bigSep_empty]; iempintro
    isplitl [H5]; · iexact H5
    isplitl [H6]; · iexact H6
    iexact Hsr
  isplitr; · iexact Hready0
  iexact Hready1

/-- A ring's semaphores, at zero. -/
def ringSem (c : Dev nD) (r : Fin 4) : sProp 𝕄 :=
  iprop(semVal (sendCell c r) 0 ∗ (semVal (recvCell c r 0) 0 ∗ semVal (recvCell c r 1) 0) ∗ semVal (credCell c r) 0)

/-- A semaphore past its last duty can be closed, and is at zero. -/
theorem close_at (c : Dev nD) (k : CK) (R : ℕ) (h : lastK k ≤ R) :
    iprop(ctx m ρ K Ks ∗ atPos ER (kcell (c, k)) R ∅ 0) ⊢ (|={Set.univ}=> semVal (kcell (c, k)) 0 : sProp 𝕄) := by
  iintro ⟨#Hctx, Hat⟩
  ihave HI := (ctx_cell m ρ K Ks c k) $$ Hctx
  iapply (Rounds.cell_close ER (ringRd m ρ) (Set.mem_univ (K (c, k))) (fun h => h) (R := R) (fun j hj => duties_later m ρ c k j (h.trans hj)))
  isplitl [HI]; · iexact HI
  iexact Hat

/-- A ring's credits, all twelve taken, end at zero. -/
theorem close_cred (c : Dev nD) (r : Fin 4) :
    iprop(ctx m ρ K Ks ∗ credSt c r 12) ⊢ (|={Set.univ}=> semVal (credCell c r) 0 : sProp 𝕄) := by
  unfold credSt
  iintro ⟨#Hctx, ⟨%S, %hS, Hat, -⟩⟩
  have hfull : Finset.range 12 ⊆ S := by
    have h1 : (Finset.range 12 \ S).card = 0 := by have := hS.2; omega
    exact Finset.sdiff_eq_empty_iff_subset.mp (Finset.card_eq_zero.mp h1)
  ihave HI := (ctx_cell m ρ K Ks c (.cred r)) $$ Hctx
  imod (Rounds.fupd_skip ER (ringRd m ρ) (R := 0) (m := 12) (T := S) (by rw [duties_eq m ρ c (.cred r) 0]; exact hfull) (expect_cred m ρ c r).symm
    (Set.mem_univ (K (c, .cred r)))) $$ [HI Hat] with ⟨Hat, -⟩
  · isplitl [HI]; · iexact HI
    iexact Hat
  iapply (close_at m ρ K Ks c (.cred r) (0 + 1) (le_refl _))
  isplitr; · iexact Hctx
  iexact Hat

/-- A ring after its last transfer ends with its semaphores at zero and its buffers free. -/
theorem close_ring (c : Dev nD) (r : Fin 4) :
    iprop(ctx m ρ K Ks ∗ ringEnd c r) ⊢ (|={Set.univ}=> (ringSem c r ∗ some' c (vSend r) ∗ (some' c (vRecv r 0) ∗ some' c (vRecv r 1))) : sProp 𝕄) := by
  unfold ringEnd recvSide awaitSide idle
  iintro ⟨#Hctx, ⟨-, Hp0, Hp1⟩, -, ⟨-, Hcr⟩, ⟨Hat, -⟩, Hs, Hr0, Hr1⟩
  imod (close_cred m ρ K Ks c r) $$ [Hcr] with Hz
  · isplitr; · iexact Hctx
    iexact Hcr
  imod (close_at m ρ K Ks c (.send r) 14 (le_refl _)) $$ [Hat] with Hzs
  · isplitr; · iexact Hctx
    iexact Hat
  unfold recvPos
  imod (close_at m ρ K Ks c (.recv r 0) 7 (le_refl _)) $$ [Hp0] with Hz0
  · isplitr; · iexact Hctx
    iexact Hp0
  imod (close_at m ρ K Ks c (.recv r 1) 7 (le_refl _)) $$ [Hp1] with Hz1
  · isplitr; · iexact Hctx
    iexact Hp1
  imodintro
  unfold ringSem
  isplitr [Hs Hr0 Hr1]
  · isplitl [Hzs]; · iexact Hzs
    isplitl [Hz0 Hz1]
    · isplitl [Hz0]; · iexact Hz0
      iexact Hz1
    iexact Hz
  isplitl [Hs]; · iexact Hs
  isplitl [Hr0]; · iexact Hr0
  iexact Hr1

/-- An update with a persistent resource, member by member. -/
theorem fam_fupd {R : sProp 𝕄} [BI.Persistent R] {Φ Ψ : Fin 4 → sProp 𝕄} (h : ∀ r, iprop(R ∗ Φ r) ⊢ (|={Set.univ}=> Ψ r : sProp 𝕄)) :
    iprop(R ∗ bigSep Finset.univ Φ) ⊢ (|={Set.univ}=> bigSep Finset.univ Ψ : sProp 𝕄) := by
  rw [four, four]
  iintro ⟨#HR, H0, H1, H2, H3⟩
  imod (h 0) $$ [H0] with H0
  · isplitr; · iexact HR
    iexact H0
  imod (h 1) $$ [H1] with H1
  · isplitr; · iexact HR
    iexact H1
  imod (h 2) $$ [H2] with H2
  · isplitr; · iexact HR
    iexact H2
  imod (h 3) $$ [H3] with H3
  · isplitr; · iexact HR
    iexact H3
  imodintro
  isplitl [H0]; · iexact H0
  isplitl [H1]; · iexact H1
  isplitl [H2]; · iexact H2
  iexact H3

/-- All rings are opened, -/
theorem open_rings (c : Dev nD) :
    iprop(ctx m ρ K Ks ∗ (bigSep Finset.univ (ringTok c) ∗ bigSep Finset.univ fun r => iprop(some' c (vRecv r 0) ∗ some' c (vRecv r 1))))
      ⊢ (|={Set.univ}=> (bigSep Finset.univ (ringOpen c) ∗ readyOwn c) : sProp 𝕄) := by
  have h := fam_fupd (R := ctx m ρ K Ks) (Φ := fun r => iprop(ringTok c r ∗ (some' c (vRecv r 0) ∗ some' c (vRecv r 1))))
    (Ψ := fun r => iprop(ringOpen c r ∗ (ready c r 0 ∗ ready c r 1))) (fun r => open_ring m ρ K Ks c r)
  rw [bigSep_sep', bigSep_sep' (Finset.univ : Finset (Fin 4)) (fun r => ringOpen c r)] at h
  exact h

/-- and all rings are closed. -/
theorem close_rings (c : Dev nD) :
    iprop(ctx m ρ K Ks ∗ bigSep Finset.univ (ringEnd c)) ⊢ (|={Set.univ}=> (bigSep Finset.univ (ringSem c) ∗ (bigSep Finset.univ fun r => some' c (vSend r))
      ∗ bigSep Finset.univ fun r => iprop(some' c (vRecv r 0) ∗ some' c (vRecv r 1))) : sProp 𝕄) := by
  have h := fam_fupd (R := ctx m ρ K Ks) (Φ := fun r => ringEnd c r)
    (Ψ := fun r => iprop(ringSem c r ∗ some' c (vSend r) ∗ (some' c (vRecv r 0) ∗ some' c (vRecv r 1)))) (fun r => close_ring m ρ K Ks c r)
  rw [bigSep_sep' (Finset.univ : Finset (Fin 4)) (fun r => ringSem c r), bigSep_sep' (Finset.univ : Finset (Fin 4)) (fun r => some' c (vSend r))] at h
  exact h

/-- The end of all rings, sorted into what closes, the product buffers and the result. -/
theorem split_end (c : Dev nD) : allEnd m ρ c ⊢ iprop(bigSep Finset.univ (ringEnd c) ∗ (bigSep Finset.univ fun r => some' c (vPc r))
    ∗ bigSep Finset.univ fun r => outsSt m ρ c r 8) := by
  unfold allEnd
  exact Entails.of_eq (by rw [bigSep_sep', bigSep_sep'])

/-! ## The body -/

/-- What a device has at launch beside its buffers. -/
def devTok (c : Dev nD) : sProp 𝕄 := iprop(barTok c ∗ exitTok c ∗ bigSep Finset.univ (ringTok c))
/-- The scratch buffers. -/
def scratch (c : Dev nD) : sProp 𝕄 :=
  iprop(anyBuf c cc0_scratch0 ∗ anyBuf c cc0_scratch1 ∗ anyBuf c cc0_scratch2 ∗ anyBuf c cc0_scratch3 ∗ anyBuf c cc0_scratch4)
/-- The semaphores at zero. -/
def devSem (c : Dev nD) : sProp 𝕄 := iprop(semVal (barCell c) 0 ∗ semVal (exitCell c) 0 ∗ bigSep Finset.univ (ringSem c))

/-- What is owed to the exit is above every other level. -/
theorem exit_level (c : Dev nD) (n : ℕ) (h : n < 100) : Above n (exitOw c) := exitOw_above c n h

/-- What the entry leaves is what the first step of the rings needs. -/
theorem gather_start (c : Dev nD) :
    iprop(bigSep Finset.univ (ringOpen (F := F) c) ∗ readyDn c ∗ (bigSep Finset.univ fun r => some' c (vSend r)) ∗ (bigSep Finset.univ fun r => some' c (vPc r))
        ∗ bigSep Finset.univ fun r => outsSt m ρ c r 0) ⊢ allStart m ρ c := by
  have h (r : Fin 4) : iprop(ringOpen (F := F) c r ∗ (ready (dn r c) r 0 ∗ ready (dn r c) r 1) ∗ some' c (vSend r) ∗ some' c (vPc r) ∗ outsSt m ρ c r 0)
      ⊢ iprop(ring0 c r (some' c (vSend r)) ∗ some' c (vPc r) ∗ outsSt m ρ c r 0) := by
    unfold ringOpen ring0
    iintro ⟨⟨H1, H2, H3, H4, H5⟩, ⟨H6, H7⟩, H8, H9, H10⟩
    isplitr [H9 H10]
    · isplitl [H1]; · iexact H1
      isplitl [H2]; · iexact H2
      isplitl [H3]; · iexact H3
      isplitl [H4]; · iexact H4
      isplitl [H6]; · iexact H6
      isplitl [H7]; · iexact H7
      isplitl [H5]; · iexact H5
      iexact H8
    isplitl [H9]; · iexact H9
    iexact H10
  unfold allStart readyDn
  refine BIBase.Entails.trans (Entails.of_eq ?_) (fam_mono h)
  rw [bigSep_sep', bigSep_sep', bigSep_sep', bigSep_sep', bigSep_sep', bigSep_sep']

/-- The body of one device: from its tokens, its inputs and its buffers to its inputs, the whole result, and every semaphore at zero. -/
theorem wp_main (c : Dev nD) (Kt : PUnit → sProp 𝕄) :
    iprop(ctx m ρ K Ks ∗ devTok c ∗ inputs m ρ c ∗ anyBuf c cc0_stg4_0 ∗ scratch c ∗ ow c (O₀ c)
        ∗ ((inputs m ρ c ∗ ((c : Thread nD τ).loc cc0_stg4_0 ↦{fullShare} outFull m ρ c) ∗ scratch c ∗ devSem c ∗ ow c 0) -∗ Kt ⟨⟩))
      ⊢ wpc c main Kt := by
  unfold devTok scratch main
  simp only [wpc, wp_bind]
  rw [show (Prog.lift .deviceId : Pr F (Dev nD)) = .op .deviceId .ret from rfl, wp_deviceId, wp_ret]
  iintro ⟨#Hctx, ⟨Hbar, Hexit, Htok⟩, Hin, Hout, ⟨Hxb, Hwb, Hsend, Hrecv, Hpc⟩, Hown, HK⟩
  ihave Hout := (cut_out m ρ c) $$ Hout
  ihave Hsend := (cut_send (F := F) c) $$ Hsend
  ihave Hrecv := (cut_recv (F := F) c) $$ Hrecv
  ihave Hpc := (cut_pc (F := F) c) $$ Hpc
  imod (open_rings m ρ K Ks c) $$ [Htok Hrecv] with ⟨Hopen, #Hready⟩
  · isplitr; · iexact Hctx
    isplitl [Htok]; · iexact Htok
    iexact Hrecv
  imodintro
  iapply (wp_entry m ρ K Ks c (exitOw c + allOw c 0) ((exit_level c 1 (by decide)).add
    ((((ringOw_above c 0 0 1 (by decide) (by decide)).add (ringOw_above c 1 0 1 (by decide) (by decide))).add (ringOw_above c 2 0 1 (by decide) (by decide))).add
      (ringOw_above c 3 0 1 (by decide) (by decide)))))
  isplitr; · iexact Hctx
  isplitl [Hin]; · iexact Hin
  isplitl [Hxb]; · iexact Hxb
  isplitl [Hwb]; · iexact Hwb
  isplitl [Hbar]; · iexact Hbar
  isplitr; · iexact Hready
  isplitl [Hown]; · unfold O₀; iexact Hown
  iintro ⟨Hin, Hopn, Hatb, #Hdn, Hown⟩
  ihave Hst := (gather_start m ρ c) $$ [Hopen Hsend Hpc Hout]
  · isplitl [Hopen]; · iexact Hopen
    isplitr; · iexact Hdn
    isplitl [Hsend]; · iexact Hsend
    isplitl [Hpc]; · iexact Hpc
    iexact Hout
  iapply (step_open m ρ K Ks c (exitOw c) _ (exit_level c 0 (by decide)))
  isplitr; · iexact Hctx
  isplitl [Hopn]; · iexact Hopn
  isplitl [Hst]; · iexact Hst
  isplitl [Hown]; · iexact Hown
  iintro ⟨Hopn, Hst, Hown⟩
  iapply (step_start m ρ K Ks c (exitOw c) _ (exit_level c 0 (by decide)))
  isplitr; · iexact Hctx
  isplitl [Hopn]; · iexact Hopn
  isplitl [Hst]; · iexact Hst
  isplitl [Hown]; · iexact Hown
  iintro ⟨Hopn, Hst, Hown⟩
  iapply (step_reduce_half m ρ K Ks c (exitOw c) _ (exit_level c 28 (by decide)))
  isplitr; · iexact Hctx
  isplitl [Hopn]; · iexact Hopn
  isplitl [Hst]; · iexact Hst
  isplitl [Hown]; · iexact Hown
  iintro ⟨Hopn, Hst, Hown⟩
  iapply (step_spread_half m ρ K Ks c (exitOw c) _ (exit_level c 28 (by decide)))
  isplitr; · iexact Hctx
  isplitl [Hopn]; · iexact Hopn
  isplitl [Hst]; · iexact Hst
  isplitl [Hown]; · iexact Hown
  rw [allOw_done, add_zero]
  iintro ⟨Hopn, Hend, Hown⟩
  ihave Hend := (split_end m ρ c) $$ Hend
  icases Hend with ⟨Hend, Hpc, Hout⟩
  imod (close_rings m ρ K Ks c) $$ [Hend] with ⟨Hsem, Hsend, Hrecv⟩
  · isplitr; · iexact Hctx
    iexact Hend
  imod (close_at m ρ K Ks c .bar 1 (le_refl _)) $$ [Hatb] with Hzb
  · isplitr; · iexact Hctx
    iexact Hatb
  iapply (wp_leave m ρ K Ks c)
  isplitr; · iexact Hctx
  isplitl [Hexit]; · iexact Hexit
  isplitl [Hown]; · iexact Hown
  iintro ⟨Hze, Hown⟩
  iapply HK
  isplitl [Hin]; · iexact Hin
  isplitl [Hout]; · iapply (join_out m ρ c); iexact Hout
  isplitl [Hopn Hsend Hrecv Hpc]
  · unfold opnds
    icases Hopn with ⟨Hxb, Hwb⟩
    isplitl [Hxb]; · iexists _; iexact Hxb
    isplitl [Hwb]; · iexists _; iexact Hwb
    isplitl [Hsend]; · iapply (join_send m c); iexact Hsend
    isplitl [Hrecv]; · iapply (join_recv m c); iexact Hrecv
    iapply (join_pc m c); iexact Hpc
  isplitr [Hown]
  · unfold devSem
    isplitl [Hzb]; · iexact Hzb
    isplitl [Hze]; · iexact Hze
    iexact Hsem
  iexact Hown

end Cert.Ring
-- ==== Proof.Tokens.lean ====
/- What the launch deals to the devices: positions, duties, credits and slots. -/
module

public import proofs.«01_k».proof.Proof.Body

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (launchCred launchCred_add launchCred_sum launchCred_tallyAt)
open Idealize.ShloMosaic.Release (USlots slots_init initSlots released readerAt writeTok slotInv)

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × CK → ℕ) (Ks : Key → ℕ)

/-! ## Families -/

/-- A family over the semaphores of a device, kind by kind. -/
theorem split_CK (Φ : CK → sProp 𝕄) : bigSep Finset.univ Φ
    ⊢ iprop(Φ .bar ∗ Φ .exit ∗ (bigSep Finset.univ fun r => Φ (.send r)) ∗ (bigSep Finset.univ fun r => iprop(Φ (.recv r 0) ∗ Φ (.recv r 1)))
        ∗ bigSep Finset.univ fun r => Φ (.cred r)) := by
  rw [bigSep_univ_eq_bigSepL allK (by decide) (by decide) Φ, four, four, four]
  show iprop(Φ .bar ∗ Φ .exit ∗ Φ (.send 0) ∗ Φ (.send 1) ∗ Φ (.send 2) ∗ Φ (.send 3) ∗ Φ (.recv 0 0) ∗ Φ (.recv 0 1) ∗ Φ (.recv 1 0) ∗ Φ (.recv 1 1)
    ∗ Φ (.recv 2 0) ∗ Φ (.recv 2 1) ∗ Φ (.recv 3 0) ∗ Φ (.recv 3 1) ∗ Φ (.cred 0) ∗ Φ (.cred 1) ∗ Φ (.cred 2) ∗ Φ (.cred 3)) ⊢ _
  iintro ⟨H1, H2, S0, S1, S2, S3, R00, R01, R10, R11, R20, R21, R30, R31, C0, C1, C2, C3⟩
  isplitl [H1]; · iexact H1
  isplitl [H2]; · iexact H2
  isplitl [S0 S1 S2 S3]
  · isplitl [S0]; · iexact S0
    isplitl [S1]; · iexact S1
    isplitl [S2]; · iexact S2
    iexact S3
  isplitl [R00 R01 R10 R11 R20 R21 R30 R31]
  · isplitl [R00 R01]
    · isplitl [R00]; · iexact R00
      iexact R01
    isplitl [R10 R11]
    · isplitl [R10]; · iexact R10
      iexact R11
    isplitl [R20 R21]
    · isplitl [R20]; · iexact R20
      iexact R21
    isplitl [R30]; · iexact R30
    iexact R31
  isplitl [C0]; · iexact C0
  isplitl [C1]; · iexact C1
  isplitl [C2]; · iexact C2
  iexact C3

/-- What is held for each semaphore of the protocol by kind is held for all. -/
theorem join_CK (Φ : CK → sProp 𝕄) :
    iprop(Φ .bar ∗ Φ .exit ∗ (bigSep Finset.univ fun r => Φ (.send r)) ∗ (bigSep Finset.univ fun r => iprop(Φ (.recv r 0) ∗ Φ (.recv r 1)))
        ∗ bigSep Finset.univ fun r => Φ (.cred r)) ⊢ bigSep Finset.univ Φ := by
  rw [bigSep_univ_eq_bigSepL allK (by decide) (by decide) Φ, four, four, four]
  show _ ⊢ iprop(Φ .bar ∗ Φ .exit ∗ Φ (.send 0) ∗ Φ (.send 1) ∗ Φ (.send 2) ∗ Φ (.send 3) ∗ Φ (.recv 0 0) ∗ Φ (.recv 0 1) ∗ Φ (.recv 1 0) ∗ Φ (.recv 1 1)
    ∗ Φ (.recv 2 0) ∗ Φ (.recv 2 1) ∗ Φ (.recv 3 0) ∗ Φ (.recv 3 1) ∗ Φ (.cred 0) ∗ Φ (.cred 1) ∗ Φ (.cred 2) ∗ Φ (.cred 3))
  iintro ⟨H1, H2, ⟨S0, S1, S2, S3⟩, ⟨⟨R00, R01⟩, ⟨R10, R11⟩, ⟨R20, R21⟩, R30, R31⟩, C0, C1, C2, C3⟩
  isplitl [H1]; · iexact H1
  isplitl [H2]; · iexact H2
  isplitl [S0]; · iexact S0
  isplitl [S1]; · iexact S1
  isplitl [S2]; · iexact S2
  isplitl [S3]; · iexact S3
  isplitl [R00]; · iexact R00
  isplitl [R01]; · iexact R01
  isplitl [R10]; · iexact R10
  isplitl [R11]; · iexact R11
  isplitl [R20]; · iexact R20
  isplitl [R21]; · iexact R21
  isplitl [R30]; · iexact R30
  isplitl [R31]; · iexact R31
  isplitl [C0]; · iexact C0
  isplitl [C1]; · iexact C1
  isplitl [C2]; · iexact C2
  iexact C3

/-- A family over a bounded number is one over an interval. -/
theorem fin_Ico (n : ℕ) (Φ : ℕ → sProp 𝕄) : (bigSep (Finset.univ : Finset (Fin n)) fun k => Φ k.val) = bigSep (Finset.Ico 0 n) Φ := by
  have h : Finset.Ico 0 n = (Finset.univ : Finset (Fin n)).map Fin.valEmbedding := by
    ext i; simp only [Finset.mem_Ico, Finset.mem_map, Finset.mem_univ, true_and, Fin.valEmbedding_apply]
    exact ⟨fun h => ⟨⟨i, h.2⟩, rfl⟩, fun ⟨k, hk⟩ => hk ▸ ⟨Nat.zero_le _, k.isLt⟩⟩
  rw [h, bigSep_map]; rfl

/-- A family over either of two types, in two parts. -/
theorem sum_fam {A B : Type} [Fintype A] [Fintype B] (Φ : A ⊕ B → sProp 𝕄) :
    bigSep Finset.univ Φ = iprop((bigSep Finset.univ fun a => Φ (.inl a)) ∗ bigSep Finset.univ fun b => Φ (.inr b)) := BI.bigSep_univ_sum Φ

/-- The devices one further around, -/
def devE : Dev nD ≃ Dev nD := ⟨rgt, lft, lft_rgt, rgt_lft⟩
/-- and the rings of the devices, each one further down. -/
def ringE : Dev nD × Fin 4 ≃ Dev nD × Fin 4 :=
  ⟨fun x => (dn x.2 x.1, x.2), fun x => (up x.2 x.1, x.2), fun x => Prod.ext (up_dn x.2 x.1) rfl, fun x => Prod.ext (dn_up x.2 x.1) rfl⟩

/-- A family over the devices, each one's share moved to the right, -/
theorem to_rgt (Φ : Dev nD → sProp 𝕄) : bigSep Finset.univ Φ = bigSep Finset.univ fun c => Φ (rgt c) := bigSep_univ_equiv devE Φ
/-- or to the left; -/
theorem to_lft (Φ : Dev nD → sProp 𝕄) : bigSep Finset.univ Φ = bigSep Finset.univ fun c => Φ (lft c) := bigSep_univ_equiv devE.symm Φ
/-- over the rings of the devices, moved down the ring, -/
theorem to_dn (Φ : Dev nD → Fin 4 → sProp 𝕄) :
    (bigSep Finset.univ fun c => bigSep Finset.univ fun r => Φ c r) = bigSep Finset.univ fun c => bigSep Finset.univ fun r => Φ (dn r c) r :=
  (bigSep_univ_prod fun x : Dev nD × Fin 4 => Φ x.1 x.2).symm.trans
    ((bigSep_univ_equiv ringE fun x => Φ x.1 x.2).trans (bigSep_univ_prod fun x : Dev nD × Fin 4 => Φ (dn x.2 x.1) x.2))
/-- or up. -/
theorem to_up (Φ : Dev nD → Fin 4 → sProp 𝕄) :
    (bigSep Finset.univ fun c => bigSep Finset.univ fun r => Φ c r) = bigSep Finset.univ fun c => bigSep Finset.univ fun r => Φ (up r c) r :=
  (bigSep_univ_prod fun x : Dev nD × Fin 4 => Φ x.1 x.2).symm.trans
    ((bigSep_univ_equiv ringE.symm fun x => Φ x.1 x.2).trans (bigSep_univ_prod fun x : Dev nD × Fin 4 => Φ (up x.2 x.1) x.2))

/-- A resource at the first device alone. -/
theorem at_first (X : sProp 𝕄) : (bigSep Finset.univ fun c : Dev nD => if c = 0 then X else iprop(emp)) ⊣⊢ X := by
  have h : (bigSep (Finset.univ.erase (0 : Dev nD)) fun c : Dev nD => if c = 0 then X else iprop(emp)) = iprop(emp) :=
    (bigSep_congr fun c hc => if_neg (Finset.ne_of_mem_erase hc)).trans (bigSep_emp_const _)
  rw [bigSep_univ_at _ (0 : Dev nD), h, if_pos rfl]
  constructor
  · iintro ⟨H, -⟩; iexact H
  · iintro H; isplitl [H]; · iexact H
    iempintro

/-- A fact that lasts can be used for every member of a family. -/
theorem with_pers {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## Duties -/

/-- The duties of one device's semaphores: barrier, exit, send, receive, credit. -/
abbrev TK : Type := (Fin 2 ⊕ Fin 2) ⊕ ((Fin 4 × Fin 14 ⊕ Fin 4 × Fin 14) ⊕ Fin 4 × Fin 12)
/-- The semaphore, the round and the number of a duty. -/
def tokK : TK → CK × ℕ × ℕ
  | .inl (.inl d) => (.bar, 0, d.val)
  | .inl (.inr d) => (.exit, 0, d.val)
  | .inr (.inl (.inl (r, k))) => (.send r, k.val, 0)
  | .inr (.inl (.inr (r, k))) => (.recv r (slot k.val), k.val / 2, 0)
  | .inr (.inr (r, n)) => (.cred r, 0, n.val)
/-- Different duties of a device are at different places, -/
theorem tokK_inj : Function.Injective tokK := by
  intro a b h
  rcases a with (d | d) | ((⟨r, k⟩ | ⟨r, k⟩) | ⟨r, n⟩) <;> rcases b with (d' | d') | ((⟨r', k'⟩ | ⟨r', k'⟩) | ⟨r', n'⟩) <;>
    simp only [tokK, Prod.mk.injEq, CK.send.injEq, CK.recv.injEq, CK.cred.injEq, true_and, and_true, reduceCtorEq, false_and] at h
  · rw [Fin.ext h]
  · rw [Fin.ext h]
  · rw [h.1, Fin.ext h.2]
  · obtain ⟨⟨h1, h2⟩, h3⟩ := h
    have h4 : k.val % 2 = k'.val % 2 := congrArg Fin.val h2
    rw [h1, Fin.ext (show k.val = k'.val by omega)]
  · rw [h.1, Fin.ext h.2]

def tokOf (x : Dev nD × TK) : GSem nD τ sig × ℕ × ℕ := (kcell (x.1, (tokK x.2).1), (tokK x.2).2)
/-- as are those of different devices. -/
theorem tokOf_inj : Function.Injective tokOf := by
  rintro ⟨c, t⟩ ⟨c', t'⟩ h
  have h1 := kcell_inj (congrArg (fun x : GSem nD τ sig × ℕ × ℕ => x.1) h)
  have h2 : (tokK t).2 = (tokK t').2 := congrArg (fun x : GSem nD τ sig × ℕ × ℕ => x.2) h
  have h3 : tokK t = tokK t' := Prod.ext (congrArg Prod.snd h1) h2
  rw [show c = c' from congrArg Prod.fst h1, tokK_inj h3]

def ringCells : Finset (GSem nD τ sig) := Finset.univ.map ⟨kcell, kcell_inj⟩
def ringToks : Finset (GSem nD τ sig × ℕ × ℕ) := Finset.univ.map ⟨tokOf, tokOf_inj⟩

/-- The tokens of a neighbour handshake on one semaphore, -/
def tB (c : Dev nD) (d : ℕ) : sProp 𝕄 := dutyTok ER (barCell c) 0 d
def tE (c : Dev nD) (d : ℕ) : sProp 𝕄 := dutyTok ER (exitCell c) 0 d
/-- of a ring's send, receive and credit semaphores, -/
def tS (c : Dev nD) (r : Fin 4) : sProp 𝕄 := bigSep (Finset.Ico 0 14) fun k => dutyTok ER (sendCell c r) k 0
def tR (c : Dev nD) (r : Fin 4) : sProp 𝕄 := bigSep (Finset.Ico 0 14) fun k => dutyTok ER (recvCell c r (slot k)) (k / 2) 0
def tC (c : Dev nD) (r : Fin 4) : sProp 𝕄 := bigSep (Finset.Ico 0 12) fun n => dutyTok ER (credCell c r) 0 n
/-- and of writing a ring's slots. -/
def tW (c : Dev nD) (r : Fin 4) : sProp 𝕄 := bigSep (Finset.Ico 0 14) fun k => writeTok ES (c, r, slot k) (k / 2 + 1)

/-- The duties of a device's own semaphores, -/
def toks (c : Dev nD) : sProp 𝕄 :=
  iprop(((tB c 0 ∗ tB c 1) ∗ (tE c 0 ∗ tE c 1)) ∗ ((bigSep Finset.univ (tS c) ∗ bigSep Finset.univ (tR c)) ∗ bigSep Finset.univ (tC c)))
/-- and those it pays. -/
def payToks (c : Dev nD) : sProp 𝕄 :=
  iprop(((tB (lft c) 0 ∗ tB (rgt c) 1) ∗ (tE (lft c) 0 ∗ tE (rgt c) 1))
    ∗ ((bigSep Finset.univ (tS c) ∗ bigSep Finset.univ fun r => tR (dn r c) r) ∗ bigSep Finset.univ fun r => tC (up r c) r)
    ∗ bigSep Finset.univ fun r => tW (dn r c) r)

/-- All duties are the devices' own, gathered. -/
theorem toks_eq : bigSep ringToks (fun x => (dutyTok ER x.1 x.2.1 x.2.2 : sProp 𝕄)) = bigSep Finset.univ (toks (F := F)) := by
  unfold ringToks
  rw [bigSep_map, bigSep_univ_prod]
  refine bigSep_congr fun c _ => ?_
  rw [sum_fam, sum_fam, sum_fam, sum_fam, two, two, bigSep_univ_prod, bigSep_univ_prod, bigSep_univ_prod]
  have hS (r : Fin 4) : tS (F := F) c r = bigSep (Finset.univ : Finset (Fin 14)) fun k => dutyTok ER (sendCell c r) k.val 0 := (fin_Ico 14 _).symm
  have hR (r : Fin 4) : tR (F := F) c r = bigSep (Finset.univ : Finset (Fin 14)) fun k => dutyTok ER (recvCell c r (slot k.val)) (k.val / 2) 0 :=
    (fin_Ico 14 fun k => dutyTok ER (recvCell c r (slot k)) (k / 2) 0).symm
  have hC (r : Fin 4) : tC (F := F) c r = bigSep (Finset.univ : Finset (Fin 12)) fun n => dutyTok ER (credCell c r) 0 n.val := (fin_Ico 12 _).symm
  unfold toks
  rw [show tS (F := F) c = _ from funext hS, show tR (F := F) c = _ from funext hR, show tC (F := F) c = _ from funext hC]
  rfl

/-- The duties of all devices and the slots as written are dealt to those who pay. -/
theorem toks_dealt : iprop(bigSep Finset.univ (toks (F := F)) ∗ bigSep Finset.univ fun c : Dev nD => bigSep Finset.univ (tW (F := F) c))
    ⊢ bigSep Finset.univ (payToks (F := F)) := by
  unfold toks payToks
  simp only [bigSep_sep']
  rw [to_lft (fun c => tB (F := F) c 0), to_rgt (fun c => tB (F := F) c 1), to_lft (fun c => tE (F := F) c 0), to_rgt (fun c => tE (F := F) c 1),
    to_dn (fun c r => tR (F := F) c r), to_up (fun c r => tC (F := F) c r), to_dn (fun c r => tW (F := F) c r)]
  iintro ⟨⟨H1, H2⟩, H3⟩
  isplitl [H1]; · iexact H1
  isplitl [H2]; · iexact H2
  iexact H3

/-! ## Slots -/

/-- The tokens for writing the slots, ring by ring. -/
theorem writes_eq : bigSep ((Finset.univ : Finset Key) ×ˢ Finset.range 7) (fun x => (writeTok ES x.1 (x.2 + 1) : sProp 𝕄))
    = bigSep Finset.univ fun c : Dev nD => bigSep Finset.univ (tW (F := F) c) := by
  let f : Dev nD × Fin 4 × Fin 14 ↪ Key × ℕ := ⟨fun x => ((x.1, x.2.1, slot x.2.2.val), x.2.2.val / 2), by
    rintro ⟨c, r, k⟩ ⟨c', r', k'⟩ h
    simp only [Prod.mk.injEq] at h
    obtain ⟨⟨h1, h2, h3⟩, h4⟩ := h
    have h5 : k.val % 2 = k'.val % 2 := congrArg Fin.val h3
    rw [h1, h2, Fin.ext (show k.val = k'.val by omega)]⟩
  have hf : (Finset.univ : Finset Key) ×ˢ Finset.range 7 = Finset.univ.map f := by
    ext ⟨⟨c, r, p⟩, j⟩
    simp only [Finset.mem_product, Finset.mem_univ, true_and, Finset.mem_range, Finset.mem_map]
    constructor
    · intro hj
      refine ⟨(c, r, ⟨2 * j + p.val, by have := p.isLt; omega⟩), ?_⟩
      show ((c, r, slot (2 * j + p.val)), (2 * j + p.val) / 2) = ((c, r, p), j)
      have hp : slot (2 * j + p.val) = p := Fin.ext (show (2 * j + p.val) % 2 = p.val by have := p.isLt; omega)
      rw [hp, show (2 * j + p.val) / 2 = j by have := p.isLt; omega]
    · rintro ⟨⟨c', r', k⟩, h⟩
      have h4 : k.val / 2 = j := congrArg Prod.snd h
      have := k.isLt; omega
  rw [hf, bigSep_map, bigSep_univ_prod]
  refine bigSep_congr fun c _ => ?_
  rw [bigSep_univ_prod]
  refine bigSep_congr fun r _ => ?_
  exact fin_Ico 14 fun k => writeTok ES (c, r, slot k) (k / 2 + 1)

/-- The slots of device `c`, as their reader counts them. -/
def readers (c : Dev nD) : sProp 𝕄 := bigSep Finset.univ fun r => iprop(readerAt ES (c, r, slot 0) 0 ∗ readerAt ES (c, r, slot 1) 0)
/-- All slots, as their readers count them, are the devices' own. -/
theorem readers_eq : bigSep (Finset.univ : Finset Key) (fun k => (readerAt ES k 0 : sProp 𝕄)) = bigSep Finset.univ (readers (F := F)) := by
  rw [bigSep_univ_prod]
  refine bigSep_congr fun c _ => ?_
  rw [bigSep_univ_prod]
  refine bigSep_congr fun r _ => ?_
  rw [two]; rfl

/-! ## Credits -/

/-- The credits of device `c`'s waits. -/
def creds (c : Dev nD) : sProp 𝕄 :=
  iprop(cred (tallyAt (barCell c) 1 2) ∗ cred (tallyAt (exitCell c) 100 2)
    ∗ bigSep Finset.univ fun r => iprop(bigSep (Finset.Ico 0 14) (waitKit c r) ∗ bigSep (Finset.Ico 0 12) (awaitKit c r)))

/-- Two credits of one are one of two. -/
theorem cred_two (g : GSem nD τ sig) (ι : ℕ) : iprop(cred (tallyAt g ι 1) ∗ cred (tallyAt g ι 1)) ⊢ (cred (tallyAt g ι 2) : sProp 𝕄) := by
  rw [show (tallyAt g ι 2 : CellTallies nD τ sig ℕ) = tallyAt g ι 1 + tallyAt g ι 1 from (tallyAt_add g ι 1 1).symm]
  exact (cred_add _ _).2

/-- What every device owes its left neighbour is a credit for its own, -/
theorem launch_lft (k : CK) (ι a : ℕ) (c : Dev nD) :
    (launchCred (fun d => tallyAt (kcell (lft d, k)) ι a) c : sProp 𝕄) ⊢ cred (tallyAt (kcell (c, k)) ι a) :=
  launchCred_tallyAt (csem k) lft rgt lft_rgt rgt_lft ι a c
/-- as is what it owes its right neighbour, -/
theorem launch_rgt (k : CK) (ι a : ℕ) (c : Dev nD) :
    (launchCred (fun d => tallyAt (kcell (rgt d, k)) ι a) c : sProp 𝕄) ⊢ cred (tallyAt (kcell (c, k)) ι a) :=
  launchCred_tallyAt (csem k) rgt lft rgt_lft lft_rgt ι a c
/-- and what the rings owe. -/
theorem launch_ring (r : Fin 4) (c : Dev nD) :
    (launchCred (fun d => ringOw d r 0) c : sProp 𝕄) ⊢ iprop(bigSep (Finset.Ico 0 14) (waitKit c r) ∗ bigSep (Finset.Ico 0 12) (awaitKit c r)) := by
  unfold ringOw sendOw credOw
  rw [launchCred_add, launchCred_sum, launchCred_sum]
  refine BI.sep_mono (bigSep_mono fun k _ => ?_) (bigSep_mono fun n _ => ?_)
  · unfold waitKit
    exact launchCred_tallyAt (csem (.recv r (slot k))) (dn r) (up r) (dn_up r) (up_dn r) (2 + 2 * k) N c
  · unfold awaitKit
    exact launchCred_tallyAt (csem (.cred r)) (up r) (dn r) (up_dn r) (dn_up r) (3 + 2 * n) 1 c

/-- All that is owed to a device gives the credits for its waits. -/
theorem launch_creds (c : Dev nD) : (launchCred O₀ c : sProp 𝕄) ⊢ creds c := by
  rw [show (O₀ : Dev nD → CellTallies nD τ sig ℕ) = fun d => (((tallyAt (kcell (rgt d, .exit)) 100 1 + tallyAt (kcell (lft d, .exit)) 100 1)
      + (((ringOw d 0 0 + ringOw d 1 0) + ringOw d 2 0) + ringOw d 3 0)) + tallyAt (kcell (rgt d, .bar)) 1 1) + tallyAt (kcell (lft d, .bar)) 1 1 from rfl,
    launchCred_add, launchCred_add, launchCred_add, launchCred_add, launchCred_add, launchCred_add, launchCred_add]
  unfold creds
  rw [four]
  iintro ⟨⟨⟨⟨E1, E2⟩, ⟨⟨R0, R1⟩, R2⟩, R3⟩, B1⟩, B2⟩
  isplitl [B1 B2]
  · iapply (cred_two (F := F) (barCell c) 1)
    isplitl [B1]; · iapply (launch_rgt (F := F) .bar 1 1 c); iexact B1
    iapply (launch_lft (F := F) .bar 1 1 c); iexact B2
  isplitl [E1 E2]
  · iapply (cred_two (F := F) (exitCell c) 100)
    isplitl [E1]; · iapply (launch_rgt (F := F) .exit 100 1 c); iexact E1
    iapply (launch_lft (F := F) .exit 100 1 c); iexact E2
  isplitl [R0]; · iapply (launch_ring (F := F) 0 c); iexact R0
  isplitl [R1]; · iapply (launch_ring (F := F) 1 c); iexact R1
  isplitl [R2]; · iapply (launch_ring (F := F) 2 c); iexact R2
  iapply (launch_ring (F := F) 3 c); iexact R3

/-! ## All of a device's -/

/-- A device's positions at round 0. -/
def posns (c : Dev nD) : sProp 𝕄 := bigSep Finset.univ fun k : CK => atPos ER (kcell (c, k)) 0 ∅ 0

/-- A ring's positions, credits, duties and slots are what it has at launch, -/
theorem ring_kits (c : Dev nD) (r : Fin 4) :
    iprop(atPos ER (sendCell c r) 0 ∅ 0 ∗ (atPos ER (recvCell c r 0) 0 ∅ 0 ∗ atPos ER (recvCell c r 1) 0 ∅ 0) ∗ atPos ER (credCell c r) 0 ∅ 0
        ∗ (bigSep (Finset.Ico 0 14) (waitKit c r) ∗ bigSep (Finset.Ico 0 12) (awaitKit c r)) ∗ tS c r ∗ tR (dn r c) r ∗ tC (up r c) r ∗ tW (dn r c) r
        ∗ (readerAt ES (c, r, slot 0) 0 ∗ readerAt ES (c, r, slot 1) 0)) ⊢ (ringTok c r : sProp 𝕄) := by
  have hs : iprop(tW (dn r c) r ∗ tR (dn r c) r ∗ tS c r) ⊢ bigSep (Finset.Ico 0 14) (sendKit (F := F) c r) := by
    unfold tW tR tS sendKit
    rw [bigSep_sep', bigSep_sep']
  have hc : tC (up r c) r ⊢ bigSep (Finset.Ico 0 12) (credKit (F := F) c r) := by
    unfold tC credKit; exact BI.Entails.refl _
  iintro ⟨HS, ⟨HR0, HR1⟩, HC, ⟨Hw, Ha⟩, TS, TR, TC, TW, D0, D1⟩
  unfold ringTok
  isplitl [Hw]; · iexact Hw
  isplitl [HR0 HR1]
  · unfold recvPos
    isplitl [HR0]; · iexact HR0
    iexact HR1
  isplitl [TC]; · iapply hc; iexact TC
  isplitl [Ha]; · iexact Ha
  isplitl [HC]; · iexact HC
  isplitl [TS TR TW]
  · iapply hs
    isplitl [TW]; · iexact TW
    isplitl [TR]; · iexact TR
    iexact TS
  isplitl [HS]; · iexact HS
  isplitl [D0]; · iexact D0
  iexact D1

/-- of all four rings, -/
theorem rings_kits (c : Dev nD) :
    iprop((bigSep Finset.univ fun r => atPos ER (sendCell c r) 0 ∅ 0) ∗ (bigSep Finset.univ fun r => iprop(atPos ER (recvCell c r 0) 0 ∅ 0 ∗ atPos ER (recvCell c r 1) 0 ∅ 0))
        ∗ (bigSep Finset.univ fun r => atPos ER (credCell c r) 0 ∅ 0)
        ∗ (bigSep Finset.univ fun r => iprop(bigSep (Finset.Ico 0 14) (waitKit c r) ∗ bigSep (Finset.Ico 0 12) (awaitKit c r)))
        ∗ bigSep Finset.univ (tS c) ∗ (bigSep Finset.univ fun r => tR (dn r c) r) ∗ (bigSep Finset.univ fun r => tC (up r c) r)
        ∗ (bigSep Finset.univ fun r => tW (dn r c) r) ∗ readers c) ⊢ (bigSep Finset.univ (ringTok c) : sProp 𝕄) := by
  refine BIBase.Entails.trans ?_ (fam_mono fun r => ring_kits c r)
  unfold readers
  simp only [bigSep_sep']
  exact BI.Entails.refl _

/-- and of a device. -/
theorem dev_kits (c : Dev nD) : iprop(posns c ∗ creds c ∗ payToks c ∗ readers c) ⊢ (devTok c : sProp 𝕄) := by
  unfold creds payToks tB tE
  iintro ⟨Hp, ⟨CB, CE, CR⟩, ⟨⟨⟨B0, B1⟩, E0, E1⟩, ⟨⟨TS, TR⟩, TC⟩, TW⟩, Hd⟩
  unfold posns
  ihave Hp := (split_CK (F := F) fun k => atPos ER (kcell (c, k)) 0 ∅ 0) $$ Hp
  icases Hp with ⟨PB, PE, PS, PR, PC⟩
  unfold devTok barTok exitTok
  isplitl [B0 B1 CB PB]
  · isplitl [B0]; · iexact B0
    isplitl [B1]; · iexact B1
    isplitl [CB]; · iexact CB
    iexact PB
  isplitl [E0 E1 CE PE]
  · isplitl [E0]; · iexact E0
    isplitl [E1]; · iexact E1
    isplitl [CE]; · iexact CE
    iexact PE
  iapply (rings_kits (F := F) c)
  isplitl [PS]; · iexact PS
  isplitl [PR]; · iexact PR
  isplitl [PC]; · iexact PC
  isplitl [CR]; · iexact CR
  isplitl [TS]; · iexact TS
  isplitl [TR]; · iexact TR
  isplitl [TC]; · iexact TC
  isplitl [TW]; · iexact TW
  iexact Hd

/-! ## Semaphores at zero -/

/-- A device's semaphores, closed, are all at zero. -/
theorem devSem_cells (c : Dev nD) : (devSem c : sProp 𝕄) ⊢ bigSep Finset.univ fun k : CK => semVal (kcell (c, k)) 0 := by
  refine BIBase.Entails.trans ?_ (join_CK (F := F) fun k => semVal (kcell (c, k)) 0)
  unfold devSem ringSem
  rw [bigSep_sep', bigSep_sep' (Finset.univ : Finset (Fin 4)) (fun r => iprop(semVal (recvCell c r 0) 0 ∗ semVal (recvCell c r 1) 0))]

end Cert.Ring
-- ==== Proof.Run.lean ====
/- The launch of all eight devices, and the run of the whole program. -/
module

public import proofs.«01_k».proof.Proof.Tokens
public import proofs.«01_k».proof.Proof.Gen.KernelIdeal.Launch
public import Idealize.ShloMosaic.Lib.Pipeline.CollectiveSegs

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation launchCred)
open Idealize.ShloMosaic.Release (USlots slots_init initSlots released readerAt writeTok slotInv)

variable {F : FTy → Type} [FloatOps F]

local notation "𝕄" => MT nD τ sig ℕ (Elt F) ℕ UU ℕ

variable (m : (ℓ : Loc nD τ sig) → Buf (Elt F) ℓ) (ρ : Dev nD → PrngReg)

/-- The kernel has one grid step, -/
theorem cfg0_N : cfg0.N = 1 := by decide
def t₀ : Fin cfg0.N := ⟨0, by rw [cfg0_N]; decide⟩
/-- so every step is the first. -/
theorem fin_N (t : Fin cfg0.N) : t = t₀ := by
  obtain ⟨t, ht⟩ := t; have := cfg0_N; exact Fin.ext (by simp only [t₀]; omega)

/-! ## The body at its one point -/

/-- What a device starts from. -/
def start (c : Dev nD) : sProp 𝕄 := iprop((∃ K Ks, ctx m ρ K Ks) ∗ devTok c)
def Φ₀ (c : Dev nD) : sProp 𝕄 := iprop(start m ρ c ∗ scratch c)
def Φ₁ (c : Dev nD) : sProp 𝕄 := iprop(scratch c ∗ devSem c)

/-- The pipeline's data: the inputs as staged, the result as the rings leave it. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => sxstg m ρ c
    | ⟨3, _⟩ => swstg m ρ c
    | ⟨4, _⟩ => outFull m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- To own a whole buffer through its view is to own the buffer. -/
theorem owns_whole (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer with given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt 0 t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))
def bodyPost (c : Dev nD) : sProp 𝕄 :=
  iprop(Φ₁ c ∗ (dats m ρ 0 c).owesAt 0 t₀.succ ∗ stg c cc0_stg0_0 (xstg m ρ c) ∗ stg c cc0_stg1_0 (wstg m ρ c)
    ∗ stg c cc0_stg2_0 (sxstg m ρ c) ∗ stg c cc0_stg3_0 (swstg m ρ c) ∗ stg c cc0_stg4_0 (outFull m ρ c))

/-- Before the body the first staging buffer holds the left factor, -/
theorem before_0 (c : Dev nD) (d) : (dats m ρ 0 c).before (0 : Fin 5) t₀ d = xstg m ρ c := by
  unfold Dat.before; rw [if_pos (by rfl)]; rfl
/-- the second the right factor, -/
theorem before_1 (c : Dev nD) (d) : (dats m ρ 0 c).before (1 : Fin 5) t₀ d = wstg m ρ c := by
  unfold Dat.before; rw [if_pos (by rfl)]; rfl
/-- the third the left scale -/
theorem before_2 (c : Dev nD) (d) : (dats m ρ 0 c).before (2 : Fin 5) t₀ d = sxstg m ρ c := by
  unfold Dat.before; rw [if_pos (by rfl)]; rfl
/-- and the fourth the right scale. -/
theorem before_3 (c : Dev nD) (d) : (dats m ρ 0 c).before (3 : Fin 5) t₀ d = swstg m ρ c := by
  unfold Dat.before; rw [if_pos (by rfl)]; rfl

/-- The body, from the pipeline's point of view. -/
theorem sound (c : Dev nD) : bodyPre m ρ c ⊢ wpc c (Ring.main (F := F)) (fun _ => bodyPost m ρ c) := by
  unfold bodyPre Φ₀ start stg
  simp only [before_0, before_1, before_2, before_3]
  unfold Dat.owesAt Pipeline.owesWithin
  rw [show (dats m ρ 0 c).owed t₀.castSucc = O₀ c from rfl]
  iintro ⟨⟨⟨⟨%K, %Ks, #Hctx⟩, Htok⟩, Hscr⟩, ⟨%W, %hW, HO⟩, ⟨%d0, %g0, %h0, H0⟩, ⟨%d1, %g1, %h1, H1⟩, ⟨%d2, %g2, %h2, H2⟩, ⟨%d3, %g3, %h3, H3⟩, ⟨%d4, %g4, %h4, H4⟩⟩
  subst h0 h1 h2 h3
  iapply (wp_main m ρ K Ks c)
  isplitr; · iexact Hctx
  isplitl [Htok]; · iexact Htok
  isplitl [H0 H1 H2 H3]
  · unfold inputs
    isplitl [H0]; · iexact H0
    isplitl [H1]; · iexact H1
    isplitl [H2]; · iexact H2
    iexact H3
  isplitl [H4]; · iexists g4; iexact H4
  isplitl [Hscr]; · iexact Hscr
  isplitl [HO]; · unfold ow; iexists W; iexact HO
  unfold inputs ow bodyPost Φ₁ stg Dat.owesAt Pipeline.owesWithin
  rw [show (dats m ρ 0 c).owed t₀.succ = 0 from rfl]
  iintro ⟨⟨H0, H1, H2, H3⟩, H4, Hscr, Hsem, ⟨%W', HO⟩⟩
  isplitl [Hscr Hsem]
  · isplitl [Hscr]; · iexact Hscr
    iexact Hsem
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact H4

/-- A family over the five windows, written out. -/
theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

set_option maxRecDepth 40000 in
/-- What the pipeline asks of the body. -/
theorem body_obligation (c : Dev nD) : BodyObligation (dats (F := F) m ρ 0 c) (defs₀ (F := F)) 𝒱₀ 0 Set.univ := fun t => by
  rw [fin_N t]
  rw [bigSep_W, bigSep_W]
  simp only [owns_whole]
  show bodyPre m ρ c ⊢ wp frame (wpE (defs₀ (F := F)) 𝒱₀ c none) Set.univ
    (cc0_body (F := F) bX (Memref.isWhole_whole _) bW (Memref.isWhole_whole _) bSX (Memref.isWhole_whole _)
      bSW (Memref.isWhole_whole _) bOut (Memref.isWhole_whole _) bXb (Memref.isWhole_whole _) bWb (Memref.isWhole_whole _)
      bSend (Memref.isWhole_whole _) bRecv (Memref.isWhole_whole _) bPc (Memref.isWhole_whole _)
      cc0_scratch5 cc0_scratch6 cc0_scratch7 cc0_scoped0) (fun _ => bodyPost m ρ c)
  rw [body_eq]
  exact sound m ρ c

/-! ## The launch -/

/-- The kernel's own semaphores: all but the barrier. -/
abbrev OK : Type := {k : CK // k ≠ .bar}
abbrev osem : OK → SemLoc sig := fun k => csem k.1

/-- The semaphores listed are the kernel's own. -/
theorem ownSemFacts : Pipeline.OwnSemFacts cfg0.spec osem := by decide +kernel
/-- Every window's array is held whole. -/
theorem share_eq (c : Dev nD) (w : Fin cfg0.W) : (dats m ρ 0 c).share w = fullShare := by unfold Dat.share; split <;> rfl

abbrev ownSems (c : Dev nD) : sProp 𝕄 := Pipeline.ownSems0 (Ix := ℕ) (Name := ℕ) (U := UU) (Lvl := ℕ) (Val := Elt F) (τ := τ) osem c

/-- The one semaphore that outlives the kernel is the barrier's. -/
theorem unscoped_eq (c : Dev nD) : (unscopedSems0 c : sProp 𝕄) = semVal (barCell c) 0 := by
  unfold unscopedSems0; rw [bigSep_eq_bigSepL_of_eq [SemLoc.reg semBar] (by decide) (by decide)]; rfl
/-- It and the kernel's own are all the semaphores of the protocol. -/
theorem sems_eq (c : Dev nD) : iprop(unscopedSems0 c ∗ ownSems c) = (bigSep Finset.univ fun k : CK => semVal (kcell (c, k)) 0 : sProp 𝕄) := by
  rw [unscoped_eq, bigSep_univ_at _ CK.bar]
  unfold ownSems Pipeline.ownSems0
  rw [show (fun k : OK => (semVal ((c : Thread nD τ), osem k) 0 : sProp 𝕄)) = fun k : OK => (fun k : CK => semVal (kcell (c, k)) 0) k.1 from rfl,
    bigSep_subtype_ne CK.bar (fun k : CK => (semVal (kcell (c, k)) 0 : sProp 𝕄))]

/-- The element of the resource algebra the launch starts from. -/
def u₀ : UU :=
  (initOf (Pipeline.cells cfgs cellOf_inj) (Pipeline.launchToks cfgs cellOf_inj), (initOf ringCells ringToks, initSlots Finset.univ 7))

/-- What it deals device `c`; the slots all to the first device. -/
def G (c : Dev nD) : sProp 𝕄 :=
  iprop((bigSep Finset.univ fun k : CK => roundState ER (ringRd m ρ) (kcell (c, k)) 0)
    ∗ (bigSep Finset.univ fun k : CK => reached ER (kcell (c, k)) 0) ∗ posns c ∗ toks c
    ∗ if c = 0 then BI.own (ES (initSlots Finset.univ 7)) else iprop(emp))

/-- The invariants of all semaphores and slots. -/
def records (K : Dev nD × CK → ℕ) (Ks : Key → ℕ) : sProp 𝕄 :=
  iprop(bigSep Finset.univ (fun ck => cellInv ER (ringRd m ρ) (K ck) (kcell ck))
    ∗ bigSep Finset.univ (fun k : Key => slotInv ES (Ks k) k (keySlot k))
    ∗ bigSep Finset.univ (fun ck => reached ER (kcell ck) 0))
instance records_persistent (K : Dev nD × CK → ℕ) (Ks : Key → ℕ) : BI.Persistent (records m ρ K Ks) := by unfold records; infer_instance

/-- What the devices have once the invariants are allocated. -/
def G' (c : Dev nD) : sProp 𝕄 := iprop((∃ K Ks, records m ρ K Ks) ∗ posns c ∗ payToks c ∗ readers c)

/-- The first ghost state of the protocol, dealt to the devices. -/
theorem fund_ring : iprop(BI.own (ER (initOf ringCells ringToks)) ∗ BI.own (ES (initSlots Finset.univ 7))) ⊢ (|==> bigSep Finset.univ (G m ρ) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hG : iprop((bigSep Finset.univ fun c : Dev nD => bigSep Finset.univ fun k : CK => roundState ER (ringRd m ρ) (kcell (c, k)) 0)
      ∗ (bigSep Finset.univ fun c : Dev nD => bigSep Finset.univ fun k : CK => reached ER (kcell (c, k)) 0)
      ∗ bigSep Finset.univ (posns (F := F)) ∗ bigSep Finset.univ (toks (F := F))
      ∗ bigSep Finset.univ fun c : Dev nD => if c = 0 then BI.own (ES (initSlots Finset.univ 7)) else iprop(emp)) ⊢ bigSep Finset.univ (G m ρ) := by
    unfold G
    rw [bigSep_sep', bigSep_sep', bigSep_sep', bigSep_sep']
  iintro ⟨HX, HS⟩
  imod (Rounds.fund ER (ringRd m ρ) ringCells ringToks) $$ HX with ⟨Hst, Hr, Hat, Htok⟩
  imodintro
  iapply hG
  isplitl [Hst]; · iapply (Entails.of_eq (hX fun g => roundState ER (ringRd m ρ) g 0)); iexact Hst
  isplitl [Hr]; · iapply (Entails.of_eq (hX fun g => reached ER g 0)); iexact Hr
  isplitl [Hat]; · iapply (Entails.of_eq (hX fun g => atPos ER g 0 ∅ 0)); iexact Hat
  isplitl [Htok]; · iapply (Entails.of_eq (toks_eq (F := F))); iexact Htok
  iapply (at_first (F := F) _).2; iexact HS

/-- The invariants of one device's semaphores. -/
theorem core_alloc (c : Dev nD) :
    iprop(ownSems c ∗ unscopedSems0 c ∗ G m ρ c)
      ⊢ |={Set.univ}=> iprop((bigSep Finset.univ fun k => iprop(∃ κ : ℕ, cellInv ER (ringRd m ρ) κ (kcell (c, k))))
          ∗ (bigSep Finset.univ fun k : CK => reached ER (kcell (c, k)) 0) ∗ posns c ∗ toks c
          ∗ if c = 0 then BI.own (ES (initSlots Finset.univ 7)) else iprop(emp)) := by
  have hinv : iprop((bigSep Finset.univ fun k : CK => semVal (kcell (c, k)) 0) ∗ bigSep Finset.univ fun k : CK => roundState ER (ringRd m ρ) (kcell (c, k)) 0)
      ⊢ (|={Set.univ}=> bigSep Finset.univ fun k => iprop(∃ κ : ℕ, cellInv ER (ringRd m ρ) κ (kcell (c, k))) : sProp 𝕄) := by
    rw [← bigSep_sep']
    exact (bigSep_mono fun k _ => (Rounds.body_intro ER (ringRd m ρ) (kcell (c, k))).trans inv_alloc).trans (bigSep_fupd _ _)
  unfold G
  iintro ⟨Hos, Hus, Hst, Hrest⟩
  imod hinv $$ [Hos Hus Hst] with Hinv
  · isplitl [Hos Hus]
    · iapply (Entails.of_eq (sems_eq (F := F) c))
      isplitl [Hus]; · iexact Hus
      iexact Hos
    iexact Hst
  imodintro
  isplitl [Hinv]; · iexact Hinv
  iexact Hrest

/-- The invariants of all devices are shared with every device, and the duties go to those that pay them. -/
theorem regroup :
    (bigSep Finset.univ fun c : Dev nD => iprop((bigSep Finset.univ fun k => iprop(∃ κ : ℕ, cellInv ER (ringRd m ρ) κ (kcell (c, k))))
          ∗ (bigSep Finset.univ fun k : CK => reached ER (kcell (c, k)) 0) ∗ posns c ∗ toks c
          ∗ if c = 0 then BI.own (ES (initSlots Finset.univ 7)) else iprop(emp)) : sProp 𝕄)
      ⊢ |={Set.univ}=> bigSep Finset.univ (G' m ρ) := by
  rw [bigSep_sep', bigSep_sep', bigSep_sep', bigSep_sep', ← bigSep_univ_prod (fun ck : Dev nD × CK => iprop(∃ κ : ℕ, cellInv ER (ringRd m ρ) κ (kcell ck))),
    ← bigSep_univ_prod (fun ck : Dev nD × CK => (reached ER (kcell ck) 0 : sProp 𝕄))]
  have hE := BI.bigSep_exists_pi Finset.univ (fun (ck : Dev nD × CK) (κ : ℕ) => (cellInv ER (ringRd m ρ) κ (kcell ck) : sProp 𝕄))
  have hS := slots_init (Es := Set.univ) (ES (F := F)) (Finset.univ : Finset Key) 7 keySlot
  iintro ⟨HI, #HR, Hpos, Htok, Hslot⟩
  ihave HK := hE $$ HI
  icases HK with ⟨%K, #HI⟩
  ihave Hslot := (at_first (F := F) (BI.own (ES (initSlots Finset.univ 7)))).1 $$ Hslot
  imod hS $$ Hslot with ⟨%Ks, %hKs, #Hsl, Hrd, Hwr⟩
  imodintro
  ihave Hpay := (toks_dealt (F := F)) $$ [Htok Hwr]
  · isplitl [Htok]; · iexact Htok
    iapply (Entails.of_eq (writes_eq (F := F))); iexact Hwr
  ihave Hrd := (Entails.of_eq (readers_eq (F := F))) $$ Hrd
  have hd (c : Dev nD) : iprop(records m ρ K Ks ∗ (posns c ∗ payToks c ∗ readers c)) ⊢ G' m ρ c := by
    unfold G'
    iintro ⟨#H, Hr⟩
    isplitr; · iexists K; iexists Ks; iexact H
    iexact Hr
  have hj : iprop(bigSep Finset.univ (posns (F := F)) ∗ bigSep Finset.univ (payToks (F := F)) ∗ bigSep Finset.univ (readers (F := F)))
      ⊢ bigSep Finset.univ fun c : Dev nD => iprop(posns (F := F) c ∗ payToks c ∗ readers c) := by
    rw [bigSep_sep', bigSep_sep']
  iapply (with_pers (R := records m ρ K Ks) fun c _ => hd c)
  isplitr
  · unfold records
    isplitr; · iexact HI
    isplitr; · iexact Hsl
    iexact HR
  iapply hj
  isplitl [Hpos]; · iexact Hpos
  isplitl [Hpay]; · iexact Hpay
  iexact Hrd

/-- All invariants allocated at once. -/
theorem glob : (bigSep Finset.univ fun c => iprop(ownSems c ∗ unscopedSems0 c ∗ G m ρ c) : sProp 𝕄) ⊢ |={Set.univ}=> bigSep Finset.univ (G' m ρ) := by
  exact ((bigSep_mono fun c _ => core_alloc m ρ c).trans (bigSep_fupd _ _)).trans ((BI.fupd_mono (regroup m ρ)).trans fupd_trans)

/-- What a device is dealt at launch is what its body starts from. -/
theorem start_intro (c : Dev nD) :
    iprop(Pipeline.unscopedRestP Pipeline.Prefetch.none cfg0.spec c (fun b => m ((c : Thread nD τ).loc b)) ∗ levAts L lv
        ∗ launchCred O₀ c ∗ prngReg c (ρ c) ∗ G' m ρ c)
      ⊢ |={Set.univ}=> iprop(start m ρ c ∗ emp) := by
  unfold G'
  iintro ⟨-, Hlev, Hcr, -, ⟨%K, %Ks, HR⟩, Hp, Ht, Hd⟩
  ihave Hc := (launch_creds (F := F) c) $$ Hcr
  imodintro
  unfold start
  isplitl
  · isplitl [Hlev HR]
    · iexists K; iexists Ks
      unfold ctx records
      icases HR with ⟨H1, H2, H3⟩
      isplitl [H1]; · iexact H1
      isplitl [H2]; · iexact H2
      isplitl [H3]; · iexact H3
      iexact Hlev
    iapply (dev_kits (F := F) c)
    isplitl [Hp]; · iexact Hp
    isplitl [Hc]; · iexact Hc
    isplitl [Ht]; · iexact Ht
    iexact Hd
  · iempintro

/-- With the scratch buffers that is the state before the body, -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

/-- and the state after it gives the semaphores, at zero, and the scratch buffers back. -/
theorem phi1_exit (c : Dev nD) :
    (dats m ρ 0 c).Φ (Fin.last cfg0.N) ⊢ iprop(unscopedSems0 c ∗ ownSems c ∗ Pipeline.scopedRest cfg0.spec c) := by
  rw [show (dats m ρ 0 c).Φ (Fin.last cfg0.N) = Φ₁ c from rfl, scopedRest0_eq]
  have h : (devSem c : sProp 𝕄) ⊢ iprop(unscopedSems0 c ∗ ownSems c) := by rw [sems_eq]; exact devSem_cells c
  unfold Φ₁ scratch
  iintro ⟨Hr, Hz⟩
  ihave Hz := h $$ Hz
  icases Hz with ⟨Hu, Ho⟩
  isplitl [Hu]; · iexact Hu
  isplitl [Ho]; · iexact Ho
  iexact Hr

/-- All that is owed at launch is above level 0. -/
theorem O₀_above (c : Dev nD) : Above 0 (O₀ c) :=
  (((exitOw_above c 0 (by decide)).add
    ((((ringOw_above c 0 0 0 (by decide) (by decide)).add (ringOw_above c 1 0 0 (by decide) (by decide))).add (ringOw_above c 2 0 0 (by decide) (by decide))).add
      (ringOw_above c 3 0 0 (by decide) (by decide)))).add (Above.tally _ .bar _ _ (by decide) (by decide))).add (Above.tally _ .bar _ _ (by decide) (by decide))

/-- The pipeline's own waits are below everything owed. -/
theorem waits (c : Dev nD) : (levAts L lv : sProp 𝕄) ⊢ Pipeline.cellsWaits cfgs (dats m ρ) 0 0 c :=
  Pipeline.cellsWaits_intro cfgs (dats m ρ) 0 0 c fun w s t =>
    mayWait c _ 0 (by decide) _ (by
      rcases t with ⟨_ | _, ht⟩
      · exact O₀_above c
      · exact Above.zero 0)

/-! ## The run -/

/-- The arrays after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 40000 in
/-- From any memory with all semaphores at zero, for any float values, every fair execution of the program ends, with
    every device's arrays as computed and every semaphore at zero. -/
theorem run_main : θ_run defs (onTc (τ := τ) (KernelIdeal.main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ KernelIdeal.main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      have hp : BI.own ((EBS (F := F)) (initOf ringCells ringToks, initSlots (Finset.univ : Finset Key) 7))
          ⊢ iprop(BI.own (ER (initOf ringCells ringToks)) ∗ BI.own (ES (initSlots Finset.univ 7))) := own_pair_emb _ _ _
      unfold u₀
      iintro Hu
      ihave H := (ownU_pair _ _) $$ Hu
      icases H with ⟨HP, HX⟩
      ihave HX := hp $$ HX
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Ring
-- ==== Proof.Frames.lean ====
/- The frames of the kernel, at its own float format and over the reals, and of the reference. -/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Ring

open Cert.KernelIdeal Cert.KernelIdeal.Gen

open Idealize.ShloMosaic
open Idealize.ShloMosaic.TcCoe
open Idealize.SL.Sem

/-- The arrays of the four arguments end as they began. -/
theorem finalA_in {F : FTy → Type} [FloatOps F] (m : (ℓ : Loc nD τ sig) → Buf (Elt F) ℓ) (ρ : Dev nD → PrngReg) (c : Dev nD) :
    finalA m ρ c (0 : Fin 5) = m ((c : Thread nD τ).loc main_arg0) ∧ finalA m ρ c (1 : Fin 5) = m ((c : Thread nD τ).loc main_arg1)
      ∧ finalA m ρ c (2 : Fin 5) = m ((c : Thread nD τ).loc main_arg2) ∧ finalA m ρ c (3 : Fin 5) = m ((c : Thread nD τ).loc main_arg3) :=
  ⟨(dats m ρ 0 c).arrAt_in (0 : Fin 5) rfl _, (dats m ρ 0 c).arrAt_in (1 : Fin 5) rfl _,
    (dats m ρ 0 c).arrAt_in (2 : Fin 5) rfl _, (dats m ρ 0 c).arrAt_in (3 : Fin 5) rfl _⟩

/-- For any float values the kernel runs, keeps its arguments and leaves every semaphore at zero. -/
theorem frame_any {F : FTy → Type} [FloatOps F] (m : (ℓ : Loc nD τ sig) → Buf (Elt F) ℓ) (ρ : Dev nD → PrngReg) :
    θ_run (Cert.KernelIdeal.defs (F := F)) (onTc (τ := τ) (Cert.KernelIdeal.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run Cert.KernelIdeal.defs _ _).mono (fun _ h =>
      ⟨fun c => ⟨(h.1 c (0 : Fin 5)).trans (finalA_in m ρ c).1, (h.1 c (1 : Fin 5)).trans (finalA_in m ρ c).2.1,
        (h.1 c (2 : Fin 5)).trans (finalA_in m ρ c).2.2.1, (h.1 c (3 : Fin 5)).trans (finalA_in m ρ c).2.2.2⟩, h.2⟩)
    (run_main (F := F) m ρ)

/-- The kernel over the reals runs, keeps its arguments and leaves every semaphore at zero. -/
theorem frame_ideal : Cert.quiescent_KernelIdeal := fun m ρ _ => frame_any (F := Ideal) m ρ

/-- The two printed kernels are one text: the tables of bodies agree, -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc ?_
  funext l a
  match l, a with
  | ⟨0, _⟩, (t, s) => rfl
/-- and so do the tables with the pipeline's entry added. -/
theorem defs_eq {F : FTy → Type} [FloatOps F] : Cert.Kernel.defs (F := F) = Cert.KernelIdeal.defs (F := F) :=
  congrArg (Pipeline.defs (Cert.KernelIdeal.pcfgs (F := F))) bodies_eq

/-- The kernel at its own float formats runs, keeps its arguments and leaves every semaphore at zero. -/
theorem frame_kernel : Cert.quiescent_Kernel := fun m ρ _ => by
  rw [defs_eq]
  exact frame_any (F := Bits) m ρ

/-- The reference runs, keeps its arguments, and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Ring
-- ==== Proof.Value.lean ====
/- What the rings compute over the reals: every block of the result is the rectified, scaled sum of the eight devices'
   products. -/
module

public import proofs.«01_k».proof.Proof.Frames
public import Idealize.ShloMosaic.Lib.MatmulPlain
public import Idealize.ShloMosaic.Lib.StackMember
public import Idealize.ShloMosaic.Lib.Pointwise.Sums
public import Idealize.ShloMosaic.Lib.Pipeline.ValueKit.Geometry

@[expose] public section

noncomputable section

namespace Cert.Ring

open Cert.KernelIdeal Cert.KernelIdeal.Gen

open Idealize.ShloMosaic
open Idealize.ShloMosaic.TcCoe
open Idealize.SL.Sem
open scoped BigOperators

variable (m : (ℓ : Loc nD τ sig) → Buf (Elt Ideal) ℓ) (ρ : Dev nD → PrngReg)

/-! ## The arguments -/

/-- The arguments of device `c`. -/
abbrev xA (c : Dev nD) : S4096x512.Idx → BitVec 8 := m ((c : Thread nD τ).loc main_arg0)
abbrev wA (c : Dev nD) : S512x2048.Idx → BitVec 8 := m ((c : Thread nD τ).loc main_arg1)
abbrev sxA (c : Dev nD) : S1.Idx → EReal := m ((c : Thread nD τ).loc main_arg2)
abbrev swA (c : Dev nD) : S1.Idx → EReal := m ((c : Thread nD τ).loc main_arg3)

/-- A word as the number it stands for. -/
def num (b : BitVec 8) : EReal := ((b.toInt : ℝ) : EReal)

/-- The staged arguments are the arguments: the left factor, -/
theorem xstg_eq (c : Dev nD) : xstg m ρ c = xA m c :=
  Memref.read_access_unit_zero (Elt Ideal) main_arg0 (funext fun a => by fin_cases a <;> decide) (fun a => by fin_cases a <;> decide) _
/-- the right factor, -/
theorem wstg_eq (c : Dev nD) : wstg m ρ c = wA m c :=
  Memref.read_access_unit_zero (Elt Ideal) main_arg1 (funext fun a => by fin_cases a <;> decide) (fun a => by fin_cases a <;> decide) _
/-- the left scale -/
theorem sxstg_eq (c : Dev nD) : sxstg m ρ c = sxA m c :=
  Memref.read_access_unit_zero (Elt Ideal) main_arg2 (funext fun a => by fin_cases a <;> decide) (fun a => by fin_cases a <;> decide) _
/-- and the right scale. -/
theorem swstg_eq (c : Dev nD) : swstg m ρ c = swA m c :=
  Memref.read_access_unit_zero (Elt Ideal) main_arg3 (funext fun a => by fin_cases a <;> decide) (fun a => by fin_cases a <;> decide) _

/-- The one index of a scale. -/
def one : S1.Idx := fun a => ⟨0, by fin_cases a; exact Nat.one_pos⟩
/-- Every index of a scale is the one. -/
theorem one_unique (i : S1.Idx) : i = one := funext fun a => Fin.ext (by
  have h : (i a).val < 1 := by have := (i a).isLt; fin_cases a; exact this
  show (i a).val = 0
  omega)

/-- The product of the scales as the kernel reads them. -/
theorem scale_eq (c : Dev nD) : scale m ρ c = sxA m c one * swA m c one := by
  unfold scale
  rw [sxstg_eq, swstg_eq]
  have h1 : (bSX.access rS).read (Elt Ideal) (sxA m c) = sxA m c :=
    Memref.read_access_unit_zero (Elt Ideal) cc0_stg2_0 (funext fun a => by fin_cases a; rfl) (fun a => by fin_cases a <;> decide) _
  have h2 : (bSW.access rS).read (Elt Ideal) (swA m c) = swA m c :=
    Memref.read_access_unit_zero (Elt Ideal) cc0_stg3_0 (funext fun a => by fin_cases a; rfl) (fun a => by fin_cases a <;> decide) _
  rw [h1, h2, one_unique (Shape.Idx.first _)]
  rfl

/-! ## One product -/

/-- The row `y` of row block `b`, -/
def rowAt (b : Fin 8) (y : Fin 512) : Fin 4096 := ⟨512 * b.val + y.val, by omega⟩
/-- and the column `y` of strip `r`. -/
def colAt (r : Fin 4) (y : Fin 512) : Fin 2048 := ⟨512 * r.val + y.val, by omega⟩

/-- Device `d`'s share of one element of the product. -/
def part (d : Dev nD) (R : Fin 4096) (C : Fin 2048) : EReal :=
  ∑ k : Fin 512, num (xA m d (ValueIdx.ix2 R k)) * num (wA m d (ValueIdx.ix2 k C))

/-- A row block of the left factor, element by element, -/
theorem xbBlk_at (c : Dev nD) (i : Fin 9) (y k : Fin 512) :
    xbBlk m ρ c i (ValueIdx.ix2 y k) = num (xA m c (ValueIdx.ix2 (rowAt (Fin.ofNat 8 (c.val + i.val)) y) k)) := by
  have e : (bXb.access (rXb c i)).emb (ValueIdx.ix2 y k) = (ValueIdx.ix2 (rowAt (Fin.ofNat 8 (c.val + i.val)) y) k : S4096x512.Idx) := by
    funext a
    refine Fin.ext ((ValueKit.view_emb_slice_whole_unit_val cc0_scratch0 _ _ _ _ _).trans ?_)
    have h := k0_off1_eq c i
    fin_cases a
    · exact congrArg (· + y.val) (congrFun h 0)
    · exact (congrArg (· + k.val) (congrFun h 1)).trans (Nat.zero_add _)
  show xbC m ρ c ((bXb.access (rXb c i)).emb (ValueIdx.ix2 y k)) = _
  rw [e]
  unfold xbC k0_pay2
  rw [xstg_eq]
  simp only [shapeCast_self]
  rfl

/-- and a column strip of the right factor. -/
theorem wbBlk_at (c : Dev nD) (r : Fin 4) (k y : Fin 512) :
    wbBlk m ρ c r (ValueIdx.ix2 k y) = num (wA m c (ValueIdx.ix2 k (colAt r y))) := by
  have e : (bWb.access (rWb r)).emb (ValueIdx.ix2 k y) = (ValueIdx.ix2 k (colAt r y) : S512x2048.Idx) := by
    funext a
    refine Fin.ext ((ValueKit.view_emb_slice_whole_unit_val cc0_scratch1 _ _ _ _ _).trans ?_)
    fin_cases a
    · exact Nat.zero_add _
    · rfl
  show wbC m ρ c ((bWb.access (rWb r)).emb (ValueIdx.ix2 k y)) = _
  rw [e]
  unfold wbC k0_pay3
  rw [wstg_eq]
  simp only [shapeCast_self]
  rfl

/-- The product of a row block and a column strip, element by element. -/
theorem product_at (c : Dev nD) (r : Fin 4) (i : Fin 9) (y z : Fin 512) :
    matmul (φ₂ := .bf16) dot_S512x512_S512x512_S512x512_1_0_0_1_n_n none (xbBlk m ρ c i) (wbBlk m ρ c r) (constant S512x512 .f32 0x00000000#32) (ValueIdx.ix2 y z)
      = part m c (rowAt (Fin.ofNat 8 (c.val + i.val)) y) (colAt r z) := by
  refine (Ideal.matmul_plain_apply (M := 512) (K := 512) (N := 512) none (xbBlk m ρ c i) (wbBlk m ρ c r) (constant S512x512 .f32 0x00000000#32) y z).trans ?_
  rw [show (constant (F := Ideal) S512x512 .f32 0x00000000#32) (ValueIdx.ix2 y z) = (0 : EReal) from Ideal.ofBits_zero_f32, zero_add]
  exact Finset.sum_congr rfl fun k _ => by rw [xbBlk_at, wbBlk_at]

/-! ## Along the ring -/

/-- The device `k` places up ring `r`. -/
def ups (r : Fin 4) (k : ℕ) (c : Dev nD) : Dev nD := (up r)^[k] c

/-- One more place up, taken first. -/
theorem ups_succ (r : Fin 4) (k : ℕ) (c : Dev nD) : ups r (k + 1) c = ups r k (up r c) := Function.iterate_succ_apply _ _ _

/-- The row block that enters transfer `k` is the one of the device `k` places up, -/
theorem xix_ups (r : Fin 4) (c : Dev nD) (k : Fin 7) : Fin.ofNat 8 (c.val + (xix r k).val) = ups r k c := by
  revert r c k; decide +kernel
/-- as is the one a device finishes. -/
theorem xfin_ups (r : Fin 4) (c : Dev nD) : Fin.ofNat 8 (c.val + (xfin r).val) = ups r 7 c := by
  revert r c; decide +kernel
/-- The row block stored `n`-th is the one of the device `n + 7` places up. -/
theorem rowOf_ups (r : Fin 4) (c : Dev nD) (n : Fin 8) : rowOf r c n = ups r (n.val + 7) c := by
  revert r c n; decide +kernel
/-- Eight places up reach every device. -/
theorem ups_bij (r : Fin 4) (c : Dev nD) : Function.Bijective fun s : Fin 8 => ups r s.val c := by
  refine (Fintype.bijective_iff_injective_and_card _).mpr ⟨?_, rfl⟩
  intro a b
  revert r c a b; decide +kernel

/-- A block as a matrix. -/
def flat (v : Vec Ideal S1x512x512 .bf16) : S512x512.Idx → EReal := fun y => v (Shape.reshapeEquiv numel_send y)

/-- Shaping a matrix as a block and back changes nothing; -/
theorem flat_cast (u : FVec Ideal S512x512 .bf16) (h : S512x512.ShapeCasts S1x512x512) : flat (shapeCast S1x512x512 u h) = u := by
  funext y
  show u (Shape.reshapeEquiv h (Shape.reshapeEquiv numel_send y)) = u y
  rw [Shape.reshapeEquiv_reshapeEquiv, Shape.reshapeEquiv_self]
/-- a block in its send shape read as a matrix, -/
theorem cast_flat (v : Vec Ideal S1x512x512 .bf16) (h : S1x512x512.ShapeCasts S512x512) : shapeCast S512x512 v h = flat v := rfl
/-- and a block in its receive shape, are the block as a matrix. -/
theorem cast_recv (v : Vec Ideal S1x512x512 .bf16) (h : S1x1x512x512.ShapeCasts S512x512) : shapeCast S512x512 (toRecv v) h = flat v := by
  funext y
  show v (Shape.reshapeEquiv numel_send ((Shape.reshapeEquiv numel_recv).symm (Shape.reshapeEquiv h y))) = _
  rw [show Shape.reshapeEquiv h y = Shape.reshapeEquiv numel_recv y from rfl, Equiv.symm_apply_apply]
  rfl

/-- The product of a row block as held between steps. -/
theorem pcv_at (c : Dev nD) (r : Fin 4) (i : Fin 9) (h : S1x512x512.ShapeCasts S512x512) (y z : Fin 512) :
    shapeCast S512x512 (pcv m ρ c r i) h (ValueIdx.ix2 y z) = part m c (rowAt (Fin.ofNat 8 (c.val + i.val)) y) (colAt r z) := by
  rw [← product_at m ρ c r i y z]
  unfold pcv k0_pay9
  show (matmul (F := Ideal) dot_S512x512_S512x512_S512x512_1_0_0_1_n_n none _ _ _) (Shape.reshapeEquiv _ (Shape.reshapeEquiv h _)) = _
  rw [Shape.reshapeEquiv_reshapeEquiv, Shape.reshapeEquiv_self]

/-- Transfer `k` of the reduction carries the sum of the shares of the `k + 1` devices up the ring, -/
theorem sent_at (k : ℕ) (hk : k ≤ 6) (c : Dev nD) (r : Fin 4) (y z : Fin 512) :
    flat (mS m ρ k c r) (ValueIdx.ix2 y z) = ∑ s ∈ Finset.range (k + 1), part m (ups r s c) (rowAt (ups r k c) y) (colAt r z) := by
  induction k generalizing c with
  | zero =>
    rw [Finset.sum_range_one]
    show flat (k0_pay4 (xbBlk m ρ c (xix r 0)) (wbBlk m ρ c r)) _ = _
    unfold k0_pay4
    rw [flat_cast]
    refine (product_at m ρ c r (xix r 0) y z).trans ?_
    rw [show Fin.ofNat 8 (c.val + (xix r 0).val) = ups r 0 c from xix_ups r c (0 : Fin 7)]; rfl
  | succ k ih =>
    have e : mS m ρ (k + 1) c r = k0_pay14 (toRecv (mS m ρ k (up r c) r)) (pcv m ρ c r (xix r (k + 1))) :=
      if_pos (by omega)
    rw [e]
    unfold k0_pay14
    rw [flat_cast, Finset.sum_range_succ']
    show shapeCast S512x512 (toRecv (mS m ρ k (up r c) r)) _ _ + shapeCast S512x512 (pcv m ρ c r (xix r (k + 1))) _ _ = _
    rw [cast_recv, pcv_at, ih (by omega), xix_ups r c ⟨k + 1, by omega⟩]
    simp only [ups_succ]
    rfl

/-- The whole sum over the devices. -/
def total (R : Fin 4096) (C : Fin 2048) : EReal := ∑ d : Dev nD, part m d R C

/-- The shares of the eight devices up the ring are all the shares. -/
theorem sum_ups (r : Fin 4) (c : Dev nD) (R : Fin 4096) (C : Fin 2048) :
    ∑ s ∈ Finset.range 8, part m (ups r s c) R C = total m R C := by
  rw [← Fin.sum_univ_eq_sum_range (fun s => part m (ups r s c) R C) 8]
  exact Function.Bijective.sum_comp (ups_bij r c) (fun d => part m d R C)

/-- the last device has the whole sum, -/
theorem fin_at (c : Dev nD) (r : Fin 4) (y z : Fin 512) :
    k0_pay66 (toRecv (mS m ρ 6 (up r c) r)) (pcv m ρ c r (xfin r)) (ValueIdx.ix2 y z) = total m (rowAt (ups r 7 c) y) (colAt r z) := by
  unfold k0_pay66
  show shapeCast S512x512 (toRecv (mS m ρ 6 (up r c) r)) _ _ + shapeCast S512x512 (pcv m ρ c r (xfin r)) _ _ = _
  rw [cast_recv, pcv_at, sent_at m ρ 6 le_rfl, xfin_ups, ← sum_ups m r c, Finset.sum_range_succ' _ 7]
  simp only [← ups_succ]
  rfl
/-- and the later transfers carry it on. -/
theorem spread_at (k : ℕ) (c : Dev nD) (r : Fin 4) (y z : Fin 512) :
    flat (mS m ρ (k + 7) c r) (ValueIdx.ix2 y z) = total m (rowAt (ups r (k + 7) c) y) (colAt r z) := by
  induction k generalizing c with
  | zero =>
    have e : mS m ρ (0 + 7) c r = k0_pay67 (toRecv (mS m ρ 6 (up r c) r)) (pcv m ρ c r (xfin r)) := mS_fin m ρ c r
    rw [e]
    unfold k0_pay67
    rw [flat_cast]
    exact fin_at m ρ c r y z
  | succ k ih =>
    have e : mS m ρ (k + 1 + 7) c r = k0_pay81 (toRecv (mS m ρ (k + 7) (up r c) r)) := mS_spread m ρ c r (k + 1 + 7) (by omega)
    rw [e]
    unfold k0_pay81
    rw [flat_cast, cast_recv, ih, show k + 1 + 7 = (k + 7) + 1 from by omega, ups_succ r (k + 7) c]

/-! ## The result -/

/-- One element of the result. -/
def res (c : Dev nD) (R : Fin 4096) (C : Fin 2048) : EReal := max (total m R C * (sxA m c one * swA m c one)) 0

/-- The last operations on a block: the scale and the rectifier, of an unsent, -/
theorem pay68_at (s : EReal) (v : S512x512.Idx → EReal) (i : S512x512.Idx) : k0_pay68 (F := Ideal) s v i = max (v i * s) 0 :=
  congrArg (max (v i * s)) Ideal.ofBits_zero_f32
/-- a forwarded -/
theorem pay82_at (s : EReal) (v : Vec Ideal S1x512x512 .bf16) (i : S512x512.Idx) : k0_pay82 s v i = max (flat v i * s) 0 :=
  congrArg (max (flat v i * s)) Ideal.ofBits_zero_f32
/-- and a received block. -/
theorem pay138_at (s : EReal) (v : Vec Ideal S1x512x512 .bf16) (i : S512x512.Idx) : k0_pay138 s (toRecv v) i = max (flat v i * s) 0 := by
  rw [← cast_recv v shapeCasts_S1x1x512x512_S512x512]
  exact congrArg (max (shapeCast S512x512 (toRecv v) shapeCasts_S1x1x512x512_S512x512 i * s)) Ideal.ofBits_zero_f32

/-- What a device stores `n`-th in strip `r`. -/
theorem outv_at (c : Dev nD) (r : Fin 4) (n : Fin 8) (y z : Fin 512) :
    outv m ρ c r n.val (ValueIdx.ix2 y z) = res m c (rowAt (rowOf r c n) y) (colAt r z) := by
  unfold res
  rw [rowOf_ups, ← scale_eq m ρ c]
  unfold outv
  split
  · next h => rw [h, pay68_at, fin_at]
  · split
    · next h0 h => rw [h, pay138_at, spread_at m ρ 6, ← ups_succ]
    · rw [pay82_at, spread_at]

/-- The result of a device, element by element. -/
theorem outFull_at (c : Dev nD) (R : Fin 4096) (C : Fin 2048) : outFull m ρ c (ValueIdx.ix2 R C) = res m c R C := by
  let i : S4096x2048.Idx := ValueIdx.ix2 R C
  let t := blkOut c i
  have hi : i ∈ (rOut t.1 c t.2).set := (blkOut_spec c t i).mpr rfl
  have h0 := Rect.mem_set_unit.mp hi 0
  have h1 := Rect.mem_set_unit.mp hi 1
  rw [outOff_row] at h0
  rw [outOff_col] at h1
  change 512 * (rowOf t.1 c t.2).val ≤ R.val ∧ R.val < 512 * (rowOf t.1 c t.2).val + 512 at h0
  change 512 * t.1.val ≤ C.val ∧ C.val < 512 * t.1.val + 512 at h1
  let y : Fin 512 := ⟨R.val - 512 * (rowOf t.1 c t.2).val, by omega⟩
  let z : Fin 512 := ⟨C.val - 512 * t.1.val, by omega⟩
  have eR : rowAt (rowOf t.1 c t.2) y = R := Fin.ext (by show 512 * (rowOf t.1 c t.2).val + (R.val - 512 * (rowOf t.1 c t.2).val) = R.val; omega)
  have eC : colAt t.1 z = C := Fin.ext (by show 512 * t.1.val + (C.val - 512 * t.1.val) = C.val; omega)
  have e : (vOut t.1 c t.2).emb (ValueIdx.ix2 y z) = i := by
    funext a
    refine Fin.ext ((ValueKit.view_emb_slice_whole_unit_val cc0_stg4_0 _ _ _ _ _).trans ?_)
    fin_cases a
    · show outOff t.1 c _ 0 + y.val = R.val
      rw [outOff_row]; exact congrArg Fin.val eR
    · show outOff t.1 c _ 1 + z.val = C.val
      rw [outOff_col]; exact congrArg Fin.val eC
  show (vOut t.1 c t.2).write (Elt Ideal) (m ((c : Thread nD τ).loc cc0_stg4_0)) (outv m ρ c t.1 t.2.val) Finset.univ i = _
  rw [← e, View.write_emb_of_mem _ _ (Finset.mem_univ _)]
  show outv m ρ c t.1 t.2.val (ValueIdx.ix2 y z) = _
  rw [outv_at, eR, eC]

/-- The result array after the run is the result of the body. -/
theorem finalA_out (c : Dev nD) : finalA m ρ c (4 : Fin 5) = outFull m ρ c := by
  have hz : (fun a => (win0_4.index (0 : Fin 1)) a * main_v1.ty.shape.size a) = fun _ => 0 := funext fun a => by fin_cases a <;> decide
  have hr := fun f => Memref.read_access_unit_zero (Elt Ideal) main_v1 hz (fun a => by fin_cases a <;> decide) f
  have h : (win0_4.blk (0 : Fin 1)).view.read (Elt Ideal) (finalA m ρ c (4 : Fin 5)) = outFull m ρ c := by
    unfold finalA
    rw [show cfg0.N = ((0 : Fin 1) : Fin cfg0.N).val + 1 from rfl, (dats m ρ 0 c).arrAt_succ (4 : Fin 5) (0 : Fin 1)]
    rw [show (cfg0.win (4 : Fin 5)).flush (0 : Fin 1) = true from by decide, if_pos rfl]
    exact View.read_write_univ _ _
  exact (hr (finalA m ρ c (4 : Fin 5))).symm.trans h

/-! ## The reference -/

/-- The reference's result on whole arrays. -/
def refVal (X : (⟨2, ![4096, 4096]⟩ : Shape).Idx → BitVec 8) (W : (⟨2, ![4096, 2048]⟩ : Shape).Idx → BitVec 8) (sx sw : S1.Idx → EReal) :
    FVec Ideal ReferenceIdeal.S4096x2048 .f32 :=
  maximumf (mulf (Host.dotGeneral ReferenceIdeal.dot_S4096x4096_S4096x2048_S4096x2048_1_0_0_1_n_n none
      (sitofp .f32 (extsi 32 X ReferenceIdeal.Gen.natLt_8_32)) (sitofp .f32 (extsi 32 W ReferenceIdeal.Gen.natLt_8_32)))
    (broadcastInDim ReferenceIdeal.S4096x2048 ![0, 1] ReferenceIdeal.Gen.bcast_S1x1_S4096x2048_0_1
      (broadcastInDim ReferenceIdeal.S1x1 ![1] ReferenceIdeal.Gen.bcast_S1_S1x1_1 (mulf (φ := .f32) sx sw))))
    (broadcastInDim ReferenceIdeal.S4096x2048 ![] ReferenceIdeal.Gen.bcast_S_S4096x2048 (constant ReferenceIdeal.S_ .f32 0x00000000#32))

/-- A word widened first stands for the same number. -/
theorem num_wide (b : BitVec 8) : (((b.signExtend 32).toInt : ℝ) : EReal) = num b := by
  rw [BitVec.toInt_signExtend_of_le (by omega)]; rfl

/-- The reference's product, element by element. -/
theorem refDot_at (X : (⟨2, ![4096, 4096]⟩ : Shape).Idx → BitVec 8) (W : (⟨2, ![4096, 2048]⟩ : Shape).Idx → BitVec 8) (R : Fin 4096) (C : Fin 2048) :
    Host.dotGeneral (F := Ideal) (φ₁ := .f32) (φ₂ := .f32) ReferenceIdeal.dot_S4096x4096_S4096x2048_S4096x2048_1_0_0_1_n_n none
      (sitofp .f32 (extsi 32 X ReferenceIdeal.Gen.natLt_8_32)) (sitofp .f32 (extsi 32 W ReferenceIdeal.Gen.natLt_8_32)) (ValueIdx.ix2 R C)
      = ∑ k : Fin 4096, num (X (ValueIdx.ix2 R k)) * num (W (ValueIdx.ix2 k C)) := by
  refine (StackMember.dotGeneral_plain_apply (m := 4096) (k := 4096) (n := 2048) none
    (sitofp .f32 (extsi 32 X ReferenceIdeal.Gen.natLt_8_32)) (sitofp .f32 (extsi 32 W ReferenceIdeal.Gen.natLt_8_32)) R C).trans ?_
  refine Finset.sum_congr rfl fun k _ => ?_
  rw [← num_wide, ← num_wide]
  rfl

/-- The reference's result, element by element. -/
theorem refVal_at (X : (⟨2, ![4096, 4096]⟩ : Shape).Idx → BitVec 8) (W : (⟨2, ![4096, 2048]⟩ : Shape).Idx → BitVec 8) (sx sw : S1.Idx → EReal)
    (R : Fin 4096) (C : Fin 2048) :
    refVal X W sx sw (ValueIdx.ix2 R C) = max ((∑ k : Fin 4096, num (X (ValueIdx.ix2 R k)) * num (W (ValueIdx.ix2 k C))) * (sx one * sw one)) 0 := by
  rw [← refDot_at X W R C, ← one_unique (fun a => ⟨0, by fin_cases a; exact Nat.one_pos⟩ : S1.Idx)]
  unfold refVal
  refine congrArg₂ (fun a b : EReal => max a b) (congrArg₂ (fun a b : EReal => a * b) rfl ?_) ?_
  · rw [broadcastInDim_apply (s := ReferenceIdeal.S1x1) _ _ _ _ (fun a => ⟨0, by fin_cases a <;> exact Nat.one_pos⟩) (fun a => by fin_cases a <;> rfl),
      broadcastInDim_apply (s := ReferenceIdeal.S1) _ _ _ _ (fun a => ⟨0, by fin_cases a; exact Nat.one_pos⟩) (fun a => by fin_cases a; rfl)]
    rfl
  · exact Ideal.ofBits_zero_f32

/-- When every device holds its column block of `X` and its row block of `W`, the devices' shares add up to the whole product. -/
theorem total_eq (X : (⟨2, ![4096, 4096]⟩ : Shape).Idx → BitVec 8) (W : (⟨2, ![4096, 2048]⟩ : Shape).Idx → BitVec 8)
    (hX : ∀ c : Dev nD, xA m c = Layout.block ⟨2, ![4096, 512]⟩ ⟨2, ![4096, 4096]⟩ 1 8 c X)
    (hW : ∀ c : Dev nD, wA m c = Layout.block ⟨2, ![512, 2048]⟩ ⟨2, ![4096, 2048]⟩ 0 8 c W) (R : Fin 4096) (C : Fin 2048) :
    total m R C = ∑ k : Fin 4096, num (X (ValueIdx.ix2 R k)) * num (W (ValueIdx.ix2 k C)) := by
  rw [Fin.sum_univ_tiles 8 512 rfl]
  refine Finset.sum_congr rfl fun d _ => Finset.sum_congr rfl fun k _ => ?_
  rw [hX d, hW d]
  refine congrArg₂ (fun a b => num a * num b) (congrArg X ?_) (congrArg W ?_)
  · funext a; fin_cases a <;> rfl
  · funext a; fin_cases a <;> rfl

/-! ## The claim -/

/-- Every device's result is the reference's. -/
theorem outFull_eq (X : (⟨2, ![4096, 4096]⟩ : Shape).Idx → BitVec 8) (W : (⟨2, ![4096, 2048]⟩ : Shape).Idx → BitVec 8) (sx sw : S1.Idx → EReal)
    (hX : ∀ c : Dev nD, xA m c = Layout.block ⟨2, ![4096, 512]⟩ ⟨2, ![4096, 4096]⟩ 1 8 c X)
    (hW : ∀ c : Dev nD, wA m c = Layout.block ⟨2, ![512, 2048]⟩ ⟨2, ![4096, 2048]⟩ 0 8 c W)
    (hsx : ∀ c : Dev nD, sxA m c = sx) (hsw : ∀ c : Dev nD, swA m c = sw) (c : Dev nD) :
    outFull m ρ c = refVal X W sx sw := by
  funext i
  obtain ⟨R, C, rfl⟩ : ∃ (R : Fin 4096) (C : Fin 2048), i = ValueIdx.ix2 R C := ⟨i 0, i 1, funext fun a => by fin_cases a <;> rfl⟩
  rw [outFull_at, refVal_at]
  unfold res
  rw [total_eq m X W hX hW, hsx c, hsw c]

/-- Over the reals, from arguments laid out in blocks, the kernel leaves on every device the reference's result. -/
theorem algebraic : Cert.algebraic_KernelIdeal_ReferenceIdeal := fun m ρ m' ρ' _ h =>
  ⟨refVal _ _ _ _,
    (θ_run Cert.KernelIdeal.defs _ _).mono (fun _ q c =>
        ⟨((q.1 c (4 : Fin 5)).trans (finalA_out m ρ c)).trans
            (outFull_eq m ρ _ _ _ _ (fun c => (h c).1) (fun c => (h c).2.1) (fun c => (h c).2.2.1) (fun c => (h c).2.2.2) c),
          (q.1 c (0 : Fin 5)).trans (finalA_in m ρ c).1, (q.1 c (1 : Fin 5)).trans (finalA_in m ρ c).2.1,
          (q.1 c (2 : Fin 5)).trans (finalA_in m ρ c).2.2.1, (q.1 c (3 : Fin 5)).trans (finalA_in m ρ c).2.2.2⟩)
      (run_main (F := Ideal) m ρ),
    (θ_run Cert.ReferenceIdeal.defs _ _).mono (fun _ q => q 0) (Cert.ReferenceIdeal.Value.run (F := Ideal) m' ρ')⟩

end Cert.Ring
-- ==== Proof.lean ====
/- The claims: the frames of the kernel and of the reference, and that the kernel computes the reference's result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- All claims together. -/
theorem claim : Cert.Claim :=
  ⟨Cert.Kernel.Gen.facts, Cert.KernelIdeal.Gen.facts, Cert.ReferenceIdeal.Gen.facts,
    Cert.Ring.frame_kernel, Cert.Ring.frame_ideal, Cert.Ring.frame_reference, trivial, Cert.Ring.algebraic⟩

end Cert.Proof

end
